-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S3584x18432 : Shape := ⟨2, ![3584, 18432]⟩
abbrev S56x18432 : Shape := ⟨2, ![56, 18432]⟩
abbrev S7168x2 : Shape := ⟨2, ![7168, 2]⟩
abbrev S18432x2 : Shape := ⟨2, ![18432, 2]⟩
abbrev S7168x4 : Shape := ⟨2, ![7168, 4]⟩
abbrev S18432x4 : Shape := ⟨2, ![18432, 4]⟩
abbrev S7168x18 : Shape := ⟨2, ![7168, 18]⟩
abbrev S18432x18 : Shape := ⟨2, ![18432, 18]⟩
abbrev S56x320 : Shape := ⟨2, ![56, 320]⟩
abbrev S320 : Shape := ⟨1, ![320]⟩
abbrev S256x7168 : Shape := ⟨2, ![256, 7168]⟩
abbrev S18x7168 : Shape := ⟨2, ![18, 7168]⟩
abbrev S4x7168 : Shape := ⟨2, ![4, 7168]⟩
abbrev S2x7168 : Shape := ⟨2, ![2, 7168]⟩
abbrev S18x18432 : Shape := ⟨2, ![18, 18432]⟩
abbrev S4x18432 : Shape := ⟨2, ![4, 18432]⟩
abbrev S2x18432 : Shape := ⟨2, ![2, 18432]⟩
abbrev S56x286 : Shape := ⟨2, ![56, 286]⟩
abbrev S56x34 : Shape := ⟨2, ![56, 34]⟩
abbrev S320x56 : Shape := ⟨2, ![320, 56]⟩
abbrev S286 : Shape := ⟨1, ![286]⟩
abbrev S34 : Shape := ⟨1, ![34]⟩
abbrev S1x320 : Shape := ⟨2, ![1, 320]⟩
abbrev S256x18432 : Shape := ⟨2, ![256, 18432]⟩
abbrev S3584x1536 : Shape := ⟨2, ![3584, 1536]⟩
abbrev S56x1536 : Shape := ⟨2, ![56, 1536]⟩
abbrev S18x1536 : Shape := ⟨2, ![18, 1536]⟩
abbrev S4x1536 : Shape := ⟨2, ![4, 1536]⟩
abbrev S2x1536 : Shape := ⟨2, ![2, 1536]⟩
abbrev S256x1536 : Shape := ⟨2, ![256, 1536]⟩
abbrev S256x512 : Shape := ⟨2, ![256, 512]⟩
abbrev S16x256 : Shape := ⟨2, ![16, 256]⟩
abbrev S16x1x256 : Shape := ⟨3, ![16, 1, 256]⟩
abbrev S16x16x256 : Shape := ⟨3, ![16, 16, 256]⟩
abbrev S256x256 : Shape := ⟨2, ![256, 256]⟩
abbrev S2x256 : Shape := ⟨2, ![2, 256]⟩
abbrev S4x256 : Shape := ⟨2, ![4, 256]⟩
abbrev S2x1x256 : Shape := ⟨3, ![2, 1, 256]⟩
abbrev S2x16x256 : Shape := ⟨3, ![2, 16, 256]⟩
abbrev S32x256 : Shape := ⟨2, ![32, 256]⟩
abbrev S30x256 : Shape := ⟨2, ![30, 256]⟩
abbrev S8x256 : Shape := ⟨2, ![8, 256]⟩
abbrev S1x256 : Shape := ⟨2, ![1, 256]⟩
abbrev S64x256 : Shape := ⟨2, ![64, 256]⟩
abbrev S320x256 : Shape := ⟨2, ![320, 256]⟩
abbrev S320x2 : Shape := ⟨2, ![320, 2]⟩
abbrev S320x128 : Shape := ⟨2, ![320, 128]⟩
abbrev S320x1 : Shape := ⟨2, ![320, 1]⟩
abbrev S384x256 : Shape := ⟨2, ![384, 256]⟩
abbrev S256x384 : Shape := ⟨2, ![256, 384]⟩
abbrev S1x64 : Shape := ⟨2, ![1, 64]⟩
abbrev S1x384 : Shape := ⟨2, ![1, 384]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S192x256 : Shape := ⟨2, ![192, 256]⟩

abbrev nBuf : Space → Nat
  | .hbm => 32
  | .vmem => 20
  | .smem => 0
  | _ => 0

abbrev bufTy : (tb : Table) → Fin (tcTables nBuf tb) → BufTy
  | .hbm, ⟨0, _⟩ => ⟨S2x128x7168, .bf16⟩
  | .hbm, ⟨1, _⟩ => ⟨S3584x18432, .i8⟩
  | .hbm, ⟨2, _⟩ => ⟨S56x18432, .bf16⟩
  | .hbm, ⟨3, _⟩ => ⟨S7168x2, .i8⟩
  | .hbm, ⟨4, _⟩ => ⟨S18432x2, .i8⟩
  | .hbm, ⟨5, _⟩ => ⟨S7168x4, .i32⟩
  | .hbm, ⟨6, _⟩ => ⟨S18432x4, .i32⟩
  | .hbm, ⟨7, _⟩ => ⟨S7168x18, .i32⟩
  | .hbm, ⟨8, _⟩ => ⟨S18432x18, .i32⟩
  | .hbm, ⟨9, _⟩ => ⟨S56x320, .bf16⟩
  | .hbm, ⟨10, _⟩ => ⟨S320, .bf16⟩
  | .hbm, ⟨11, _⟩ => ⟨S320, .f32⟩
  | .hbm, ⟨12, _⟩ => ⟨S256x7168, .bf16⟩
  | .hbm, ⟨13, _⟩ => ⟨S18x7168, .i32⟩
  | .hbm, ⟨14, _⟩ => ⟨S4x7168, .i32⟩
  | .hbm, ⟨15, _⟩ => ⟨S2x7168, .i8⟩
  | .hbm, ⟨16, _⟩ => ⟨S18x18432, .i32⟩
  | .hbm, ⟨17, _⟩ => ⟨S4x18432, .i32⟩
  | .hbm, ⟨18, _⟩ => ⟨S2x18432, .i8⟩
  | .hbm, ⟨19, _⟩ => ⟨S56x286, .bf16⟩
  | .hbm, ⟨20, _⟩ => ⟨S56x34, .bf16⟩
  | .hbm, ⟨21, _⟩ => ⟨S56x320, .bf16⟩
  | .hbm, ⟨22, _⟩ => ⟨S320x56, .bf16⟩
  | .hbm, ⟨23, _⟩ => ⟨S286, .bf16⟩
  | .hbm, ⟨24, _⟩ => ⟨S34, .bf16⟩
  | .hbm, ⟨25, _⟩ => ⟨S320, .bf16⟩
  | .hbm, ⟨26, _⟩ => ⟨S1x320, .bf16⟩
  | .hbm, ⟨27, _⟩ => ⟨S286, .f32⟩
  | .hbm, ⟨28, _⟩ => ⟨S34, .f32⟩
  | .hbm, ⟨29, _⟩ => ⟨S320, .f32⟩
  | .hbm, ⟨30, _⟩ => ⟨S1x320, .f32⟩
  | .hbm, ⟨31, _⟩ => ⟨S256x18432, .bf16⟩
  | .local _ .vmem, ⟨0, _⟩ => ⟨S256x7168, .bf16⟩
  | .local _ .vmem, ⟨1, _⟩ => ⟨S3584x1536, .i8⟩
  | .local _ .vmem, ⟨2, _⟩ => ⟨S3584x1536, .i8⟩
  | .local _ .vmem, ⟨3, _⟩ => ⟨S56x1536, .bf16⟩
  | .local _ .vmem, ⟨4, _⟩ => ⟨S56x1536, .bf16⟩
  | .local _ .vmem, ⟨5, _⟩ => ⟨S18x7168, .i32⟩
  | .local _ .vmem, ⟨6, _⟩ => ⟨S4x7168, .i32⟩
  | .local _ .vmem, ⟨7, _⟩ => ⟨S2x7168, .i8⟩
  | .local _ .vmem, ⟨8, _⟩ => ⟨S18x1536, .i32⟩
  | .local _ .vmem, ⟨9, _⟩ => ⟨S18x1536, .i32⟩
  | .local _ .vmem, ⟨10, _⟩ => ⟨S4x1536, .i32⟩
  | .local _ .vmem, ⟨11, _⟩ => ⟨S4x1536, .i32⟩
  | .local _ .vmem, ⟨12, _⟩ => ⟨S2x1536, .i8⟩
  | .local _ .vmem, ⟨13, _⟩ => ⟨S2x1536, .i8⟩
  | .local _ .vmem, ⟨14, _⟩ => ⟨S320x56, .bf16⟩
  | .local _ .vmem, ⟨15, _⟩ => ⟨S1x320, .bf16⟩
  | .local _ .vmem, ⟨16, _⟩ => ⟨S1x320, .f32⟩
  | .local _ .vmem, ⟨17, _⟩ => ⟨S256x1536, .bf16⟩
  | .local _ .vmem, ⟨18, _⟩ => ⟨S256x1536, .bf16⟩
  | .local _ .vmem, ⟨19, _⟩ => ⟨S256x512, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_call2_v0 : Ref sig .tc := ⟨.hbm, 27, rfl⟩
abbrev main_call2_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S18x7168 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x7168 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S18x1536 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1536 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1536 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S320x56 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x320 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x320 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x128x7168 : Shape := ⟨3, ![2, 128, 7168]⟩
abbrev S3584x18432 : Shape := ⟨2, ![3584, 18432]⟩
abbrev S56x18432 : Shape := ⟨2, ![56, 18432]⟩
abbrev S7168x2 : Shape := ⟨2, ![7168, 2]⟩
abbrev S18432x2 : Shape := ⟨2, ![18432, 2]⟩
abbrev S7168x4 : Shape := ⟨2, ![7168, 4]⟩
abbrev S18432x4 : Shape := ⟨2, ![18432, 4]⟩
abbrev S7168x18 : Shape := ⟨2, ![7168, 18]⟩
abbrev S18432x18 : Shape := ⟨2, ![18432, 18]⟩
abbrev S56x320 : Shape := ⟨2, ![56, 320]⟩
abbrev S320 : Shape := ⟨1, ![320]⟩
abbrev S56x1x18432 : Shape := ⟨3, ![56, 1, 18432]⟩
abbrev S_ : Shape := ⟨0, ![]⟩
abbrev S56x64x18432 : Shape := ⟨3, ![56, 64, 18432]⟩
abbrev S2x128x3584 : Shape := ⟨3, ![2, 128, 3584]⟩
abbrev S2x128x18432 : Shape := ⟨3, ![2, 128, 18432]⟩
abbrev S56x2 : Shape := ⟨2, ![56, 2]⟩
abbrev S56x32 : Shape := ⟨2, ![56, 32]⟩
abbrev S56x40 : Shape := ⟨2, ![56, 40]⟩
abbrev S56x4x10 : Shape := ⟨3, ![56, 4, 10]⟩
abbrev S56x286 : Shape := ⟨2, ![56, 286]⟩
abbrev S56x288 : Shape := ⟨2, ![56, 288]⟩
abbrev S56x18x16 : Shape := ⟨3, ![56, 18, 16]⟩
abbrev S56x128x2 : Shape := ⟨3, ![56, 128, 2]⟩
abbrev S56x1x2 : Shape := ⟨3, ![56, 1, 2]⟩
abbrev S10 : Shape := ⟨1, ![10]⟩
abbrev S7168x4x1 : Shape := ⟨3, ![7168, 4, 1]⟩
abbrev S1x1x10 : Shape := ⟨3, ![1, 1, 10]⟩
abbrev S7168x4x10 : Shape := ⟨3, ![7168, 4, 10]⟩
abbrev S56x128x4x10 : Shape := ⟨4, ![56, 128, 4, 10]⟩
abbrev S56x1x4x10 : Shape := ⟨4, ![56, 1, 4, 10]⟩
abbrev S16 : Shape := ⟨1, ![16]⟩
abbrev S7168x18x1 : Shape := ⟨3, ![7168, 18, 1]⟩
abbrev S1x1x16 : Shape := ⟨3, ![1, 1, 16]⟩
abbrev S7168x18x16 : Shape := ⟨3, ![7168, 18, 16]⟩
abbrev S56x128x18x16 : Shape := ⟨4, ![56, 128, 18, 16]⟩
abbrev S56x1x18x16 : Shape := ⟨4, ![56, 1, 18, 16]⟩
abbrev S2x128x2 : Shape := ⟨3, ![2, 128, 2]⟩
abbrev S2x128x4x10 : Shape := ⟨4, ![2, 128, 4, 10]⟩
abbrev S2x128x18x16 : Shape := ⟨4, ![2, 128, 18, 16]⟩
abbrev S2 : Shape := ⟨1, ![2]⟩
abbrev S1x1x2 : Shape := ⟨3, ![1, 1, 2]⟩
abbrev S32 : Shape := ⟨1, ![32]⟩
abbrev S40 : Shape := ⟨1, ![40]⟩
abbrev S4x10 : Shape := ⟨2, ![4, 10]⟩
abbrev S1x1x4x10 : Shape := ⟨4, ![1, 1, 4, 10]⟩
abbrev S286 : Shape := ⟨1, ![286]⟩
abbrev S288 : Shape := ⟨1, ![288]⟩
abbrev S18x16 : Shape := ⟨2, ![18, 16]⟩
abbrev S1x1x18x16 : Shape := ⟨4, ![1, 1, 18, 16]⟩
abbrev S18432x4x1 : Shape := ⟨3, ![18432, 4, 1]⟩
abbrev S18432x4x10 : Shape := ⟨3, ![18432, 4, 10]⟩
abbrev S18432x18x1 : Shape := ⟨3, ![18432, 18, 1]⟩
abbrev S18432x18x16 : Shape := ⟨3, ![18432, 18, 16]⟩
abbrev S256x18432 : Shape := ⟨2, ![256, 18432]⟩

abbrev nBuf : Space → Nat
  | .hbm => 195
  | .vmem => 0
  | .smem => 0
  | _ => 0

abbrev hbmTy0_0 (i : Nat) : BufTy := match i % 128 with
  | 0 => ⟨S2x128x7168, .bf16⟩
  | 1 => ⟨S3584x18432, .i8⟩
  | 2 => ⟨S56x18432, .bf16⟩
  | 3 => ⟨S7168x2, .i8⟩
  | 4 => ⟨S18432x2, .i8⟩
  | 5 => ⟨S7168x4, .i32⟩
  | 6 => ⟨S18432x4, .i32⟩
  | 7 => ⟨S7168x18, .i32⟩
  | 8 => ⟨S18432x18, .i32⟩
  | 9 => ⟨S56x320, .bf16⟩
  | 10 => ⟨S320, .bf16⟩
  | 11 => ⟨S320, .f32⟩
  | 12 => ⟨S3584x18432, .i32⟩
  | 13 => ⟨S56x1x18432, .bf16⟩
  | 14 => ⟨S_, .i32⟩
  | 15 => ⟨S3584x18432, .i32⟩
  | 16 => ⟨S3584x18432, .i32⟩
  | 17 => ⟨S_, .i32⟩
  | 18 => ⟨S3584x18432, .i32⟩
  | 19 => ⟨S3584x18432, .i1⟩
  | 20 => ⟨S_, .i32⟩
  | 21 => ⟨S3584x18432, .i32⟩
  | 22 => ⟨S3584x18432, .i32⟩
  | 23 => ⟨S3584x18432, .i32⟩
  | 24 => ⟨S3584x18432, .bf16⟩
  | 25 => ⟨S56x64x18432, .bf16⟩
  | 26 => ⟨S56x64x18432, .bf16⟩
  | 27 => ⟨S56x64x18432, .bf16⟩
  | 28 => ⟨S3584x18432, .bf16⟩
  | 29 => ⟨S_, .i32⟩
  | 30 => ⟨S3584x18432, .i32⟩
  | 31 => ⟨S3584x18432, .i32⟩
  | 32 => ⟨S_, .i32⟩
  | 33 => ⟨S3584x18432, .i32⟩
  | 34 => ⟨S3584x18432, .i1⟩
  | 35 => ⟨S_, .i32⟩
  | 36 => ⟨S3584x18432, .i32⟩
  | 37 => ⟨S3584x18432, .i32⟩
  | 38 => ⟨S3584x18432, .i32⟩
  | 39 => ⟨S3584x18432, .bf16⟩
  | 40 => ⟨S56x64x18432, .bf16⟩
  | 41 => ⟨S56x64x18432, .bf16⟩
  | 42 => ⟨S56x64x18432, .bf16⟩
  | 43 => ⟨S3584x18432, .bf16⟩
  | 44 => ⟨S2x128x3584, .bf16⟩
  | 45 => ⟨S2x128x18432, .f32⟩
  | 46 => ⟨S2x128x3584, .bf16⟩
  | 47 => ⟨S2x128x18432, .f32⟩
  | 48 => ⟨S56x2, .bf16⟩
  | 49 => ⟨S56x32, .bf16⟩
  | 50 => ⟨S_, .i32⟩
  | 51 => ⟨S_, .bf16⟩
  | 52 => ⟨S56x40, .bf16⟩
  | 53 => ⟨S56x4x10, .bf16⟩
  | 54 => ⟨S56x286, .bf16⟩
  | 55 => ⟨S_, .i32⟩
  | 56 => ⟨S_, .bf16⟩
  | 57 => ⟨S56x288, .bf16⟩
  | 58 => ⟨S56x18x16, .bf16⟩
  | 59 => ⟨S7168x2, .i32⟩
  | 60 => ⟨S7168x2, .bf16⟩
  | 61 => ⟨S56x128x2, .bf16⟩
  | 62 => ⟨S56x1x2, .bf16⟩
  | 63 => ⟨S56x128x2, .bf16⟩
  | 64 => ⟨S56x128x2, .bf16⟩
  | 65 => ⟨S7168x2, .bf16⟩
  | 66 => ⟨S10, .i32⟩
  | 67 => ⟨S_, .i32⟩
  | 68 => ⟨S10, .i32⟩
  | 69 => ⟨S10, .i32⟩
  | 70 => ⟨S7168x4x1, .i32⟩
  | 71 => ⟨S1x1x10, .i32⟩
  | 72 => ⟨S7168x4x10, .i32⟩
  | 73 => ⟨S7168x4x10, .i32⟩
  | 74 => ⟨S7168x4x10, .i32⟩
  | 75 => ⟨S_, .i32⟩
  | 76 => ⟨S7168x4x10, .i32⟩
  | 77 => ⟨S7168x4x10, .i32⟩
  | 78 => ⟨S_, .i32⟩
  | 79 => ⟨S7168x4x10, .i32⟩
  | 80 => ⟨S7168x4x10, .i1⟩
  | 81 => ⟨S_, .i32⟩
  | 82 => ⟨S7168x4x10, .i32⟩
  | 83 => ⟨S7168x4x10, .i32⟩
  | 84 => ⟨S7168x4x10, .i32⟩
  | 85 => ⟨S7168x4x10, .bf16⟩
  | 86 => ⟨S56x128x4x10, .bf16⟩
  | 87 => ⟨S56x1x4x10, .bf16⟩
  | 88 => ⟨S56x128x4x10, .bf16⟩
  | 89 => ⟨S56x128x4x10, .bf16⟩
  | 90 => ⟨S7168x4x10, .bf16⟩
  | 91 => ⟨S16, .i32⟩
  | 92 => ⟨S_, .i32⟩
  | 93 => ⟨S16, .i32⟩
  | 94 => ⟨S16, .i32⟩
  | 95 => ⟨S7168x18x1, .i32⟩
  | 96 => ⟨S1x1x16, .i32⟩
  | 97 => ⟨S7168x18x16, .i32⟩
  | 98 => ⟨S7168x18x16, .i32⟩
  | 99 => ⟨S7168x18x16, .i32⟩
  | 100 => ⟨S_, .i32⟩
  | 101 => ⟨S7168x18x16, .i32⟩
  | 102 => ⟨S7168x18x16, .i32⟩
  | 103 => ⟨S_, .i32⟩
  | 104 => ⟨S7168x18x16, .i32⟩
  | 105 => ⟨S7168x18x16, .i1⟩
  | 106 => ⟨S_, .i32⟩
  | 107 => ⟨S7168x18x16, .i32⟩
  | 108 => ⟨S7168x18x16, .i32⟩
  | 109 => ⟨S7168x18x16, .i32⟩
  | 110 => ⟨S7168x18x16, .bf16⟩
  | 111 => ⟨S56x128x18x16, .bf16⟩
  | 112 => ⟨S56x1x18x16, .bf16⟩
  | 113 => ⟨S56x128x18x16, .bf16⟩
  | 114 => ⟨S56x128x18x16, .bf16⟩
  | 115 => ⟨S7168x18x16, .bf16⟩
  | 116 => ⟨S2x128x2, .f32⟩
  | 117 => ⟨S2x128x4x10, .f32⟩
  | 118 => ⟨S2x128x18x16, .f32⟩
  | 119 => ⟨S320, .f32⟩
  | 120 => ⟨S320, .f32⟩
  | 121 => ⟨S2, .f32⟩
  | 122 => ⟨S1x1x2, .f32⟩
  | 123 => ⟨S2x128x2, .f32⟩
  | 124 => ⟨S2x128x2, .f32⟩
  | 125 => ⟨S2x128x2, .bf16⟩
  | 126 => ⟨S32, .f32⟩
  | 127 => ⟨S_, .i32⟩
  | _ => ⟨S2x128x7168, .bf16⟩

abbrev hbmTy0_1 (i : Nat) : BufTy := match i % 128 with
  | 0 => ⟨S_, .f32⟩
  | 1 => ⟨S40, .f32⟩
  | 2 => ⟨S4x10, .f32⟩
  | 3 => ⟨S1x1x4x10, .f32⟩
  | 4 => ⟨S2x128x4x10, .f32⟩
  | 5 => ⟨S2x128x4x10, .f32⟩
  | 6 => ⟨S2x128x4x10, .bf16⟩
  | 7 => ⟨S286, .f32⟩
  | 8 => ⟨S_, .i32⟩
  | 9 => ⟨S_, .f32⟩
  | 10 => ⟨S288, .f32⟩
  | 11 => ⟨S18x16, .f32⟩
  | 12 => ⟨S1x1x18x16, .f32⟩
  | 13 => ⟨S2x128x18x16, .f32⟩
  | 14 => ⟨S2x128x18x16, .f32⟩
  | 15 => ⟨S2x128x18x16, .bf16⟩
  | 16 => ⟨S18432x2, .i32⟩
  | 17 => ⟨S18432x2, .bf16⟩
  | 18 => ⟨S2x128x18432, .f32⟩
  | 19 => ⟨S10, .i32⟩
  | 20 => ⟨S_, .i32⟩
  | 21 => ⟨S10, .i32⟩
  | 22 => ⟨S10, .i32⟩
  | 23 => ⟨S18432x4x1, .i32⟩
  | 24 => ⟨S1x1x10, .i32⟩
  | 25 => ⟨S18432x4x10, .i32⟩
  | 26 => ⟨S18432x4x10, .i32⟩
  | 27 => ⟨S18432x4x10, .i32⟩
  | 28 => ⟨S_, .i32⟩
  | 29 => ⟨S18432x4x10, .i32⟩
  | 30 => ⟨S18432x4x10, .i32⟩
  | 31 => ⟨S_, .i32⟩
  | 32 => ⟨S18432x4x10, .i32⟩
  | 33 => ⟨S18432x4x10, .i1⟩
  | 34 => ⟨S_, .i32⟩
  | 35 => ⟨S18432x4x10, .i32⟩
  | 36 => ⟨S18432x4x10, .i32⟩
  | 37 => ⟨S18432x4x10, .i32⟩
  | 38 => ⟨S18432x4x10, .bf16⟩
  | 39 => ⟨S2x128x18432, .f32⟩
  | 40 => ⟨S16, .i32⟩
  | 41 => ⟨S_, .i32⟩
  | 42 => ⟨S16, .i32⟩
  | 43 => ⟨S16, .i32⟩
  | 44 => ⟨S18432x18x1, .i32⟩
  | 45 => ⟨S1x1x16, .i32⟩
  | 46 => ⟨S18432x18x16, .i32⟩
  | 47 => ⟨S18432x18x16, .i32⟩
  | 48 => ⟨S18432x18x16, .i32⟩
  | 49 => ⟨S_, .i32⟩
  | 50 => ⟨S18432x18x16, .i32⟩
  | 51 => ⟨S18432x18x16, .i32⟩
  | 52 => ⟨S_, .i32⟩
  | 53 => ⟨S18432x18x16, .i32⟩
  | 54 => ⟨S18432x18x16, .i1⟩
  | 55 => ⟨S_, .i32⟩
  | 56 => ⟨S18432x18x16, .i32⟩
  | 57 => ⟨S18432x18x16, .i32⟩
  | 58 => ⟨S18432x18x16, .i32⟩
  | 59 => ⟨S18432x18x16, .bf16⟩
  | 60 => ⟨S2x128x18432, .f32⟩
  | 61 => ⟨S2x128x18432, .f32⟩
  | 62 => ⟨S2x128x18432, .f32⟩
  | 63 => ⟨S2x128x18432, .f32⟩
  | 64 => ⟨S2x128x18432, .f32⟩
  | 65 => ⟨S2x128x18432, .bf16⟩
  | 66 => ⟨S256x18432, .bf16⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_call2_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_15 : Ref sig .tc := ⟨.hbm, 127, rfl⟩
abbrev main_call6_v0 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_16 : Ref sig .tc := ⟨.hbm, 136, rfl⟩
abbrev main_call7_v0 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_17 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_c_18 : Ref sig .tc := ⟨.hbm, 156, rfl⟩
abbrev main_v121 : Ref sig .tc := ⟨.hbm, 157, rfl⟩
abbrev main_v122 : Ref sig .tc := ⟨.hbm, 158, rfl⟩
abbrev main_c_19 : Ref sig .tc := ⟨.hbm, 159, rfl⟩
abbrev main_v123 : Ref sig .tc := ⟨.hbm, 160, rfl⟩
abbrev main_v124 : Ref sig .tc := ⟨.hbm, 161, rfl⟩
abbrev main_c_20 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c_21 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_22 : Ref sig .tc := ⟨.hbm, 177, rfl⟩
abbrev main_v138 : Ref sig .tc := ⟨.hbm, 178, rfl⟩
abbrev main_v139 : Ref sig .tc := ⟨.hbm, 179, rfl⟩
abbrev main_c_23 : Ref sig .tc := ⟨.hbm, 180, rfl⟩
abbrev main_v140 : Ref sig .tc := ⟨.hbm, 181, rfl⟩
abbrev main_v141 : Ref sig .tc := ⟨.hbm, 182, rfl⟩
abbrev main_c_24 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩

abbrev nD : Nat := 1
abbrev τ : Topo := Topo.v7x

variable {F : FTy → Type} [FloatOps F]
-- ==== Proof.K.Spec.lean ====
module

public import proofs.«01_k».proof.Proof.Gen.Kernel.Frame
public import Idealize.ShloMosaic.Lib.Claim
public import Idealize.ShloMosaic.Lib.Mxu.PassChain

/-! # What the kernel body computes, as functions of its operand blocks

The body decodes packed integer fields to tiles of weights, runs the tiles through the two matrix units, and writes
the two units' sums. These definitions write the same operations as functions: of the tile's number where the body
is unrolled. -/

@[expose] public section

set_option maxRecDepth 16384

noncomputable section

namespace Cert.Kernel.Hand

open Cert.Kernel Cert.Kernel.Gen
open Idealize.ShloMosaic Idealize.ShloMosaic.TcCoe

variable {F : FTy → Type} [FloatOps F]

/-! ## The boxes of the operand blocks -/

abbrev boxX (k : Fin 28) : Rect S256x7168 := Rect.unit (s := S256x7168) ![0, 256 * k.val] S256x256.size
  (by revert k; decide)
abbrev boxW (k : Fin 28) (j : Fin 6) : Rect S3584x1536 := Rect.unit (s := S3584x1536) ![128 * k.val, 256 * j.val] S128x256.size
  (by revert k j; decide)
abbrev boxS (k : Fin 28) (j : Fin 6) : Rect S56x1536 := Rect.unit (s := S56x1536) ![2 * k.val, 256 * j.val] S2x256.size
  (by revert k j; decide)
abbrev boxV2 (k : Fin 28) : Rect S18x7168 := Rect.unit (s := S18x7168) ![0, 256 * k.val] S16x256.size
  (by revert k; decide)
abbrev boxV2' (k : Fin 28) : Rect S18x7168 := Rect.unit (s := S18x7168) ![16, 256 * k.val] S2x256.size
  (by revert k; decide)
abbrev boxV3 (k : Fin 28) : Rect S4x7168 := Rect.unit (s := S4x7168) ![0, 256 * k.val] S4x256.size
  (by revert k; decide)
abbrev boxV8 (k : Fin 28) : Rect S2x7168 := Rect.unit (s := S2x7168) ![0, 256 * k.val] S2x256.size
  (by revert k; decide)
abbrev boxVs (k : Fin 28) : Rect S320x56 := Rect.unit (s := S320x56) ![0, 2 * k.val] S320x2.size
  (by revert k; decide)
abbrev boxU2 (j : Fin 6) : Rect S18x1536 := Rect.unit (s := S18x1536) ![0, 256 * j.val] S16x256.size
  (by revert j; decide)
abbrev boxU2' (j : Fin 6) : Rect S18x1536 := Rect.unit (s := S18x1536) ![16, 256 * j.val] S2x256.size
  (by revert j; decide)
abbrev boxU3 (j : Fin 6) : Rect S4x1536 := Rect.unit (s := S4x1536) ![0, 256 * j.val] S4x256.size
  (by revert j; decide)
abbrev boxU8 (j : Fin 6) : Rect S2x1536 := Rect.unit (s := S2x1536) ![0, 256 * j.val] S2x256.size
  (by revert j; decide)
abbrev boxO (j : Fin 6) : Rect S256x1536 := Rect.unit (s := S256x1536) ![0, 256 * j.val] S256x256.size
  (by revert j; decide)
abbrev boxT (e : Fin 2) : Rect S256x512 := Rect.unit (s := S256x512) ![0, 256 * e.val] S256x256.size
  (by revert e; decide)
abbrev boxRow {n : Nat} : Rect S1x320 := Rect.unit (s := S1x320) ![0, 0] S1x320.size inb_S1x320_S1x320_0_0
abbrev boxT384 : Rect S256x512 := Rect.unit (s := S256x512) ![0, 0] S256x384.size inb_S256x512_S256x384_0_0
abbrev boxT128 : Rect S256x512 := Rect.unit (s := S256x512) ![0, 384] S256x128.size inb_S256x512_S256x128_0_384

/-! ## Decoding a tile of packed fields -/

/-- The signed 2-bit fields of 16 rows of words, 16 fields a word, lowest field first. -/
def two256 (w : IVec S16x256 32) : FVec F S256x256 .bf16 :=
  truncf .bf16 (sitofp .f32 (shrsi
    (shli (shapeCast S256x256 (broadcastTo S16x16x256 (shapeCast S16x1x256 (shapeCast S16x1x256
        (shapeCast S16x256 w shapeCasts_S16x256_S16x256) shapeCasts_S16x256_S16x1x256) shapeCasts_S16x1x256_S16x1x256)
        broadcasts_S16x1x256_S16x16x256) shapeCasts_S16x16x256_S256x256)
      (subi (broadcast S256x256 30#32) (muli (broadcast S256x256 2#32)
        (andi (iota .tc S256x256 32 [0] iota_S256x256_d0_w32) (broadcast S256x256 15#32)))))
    (broadcast S256x256 30#32))) bitsLt_bf16_f32

/-- The same of two rows of words. -/
def two32 (w : IVec S2x256 32) : FVec F S32x256 .bf16 :=
  truncf .bf16 (sitofp .f32 (shrsi
    (shli (shapeCast S32x256 (broadcastTo S2x16x256 (shapeCast S2x1x256 (shapeCast S2x1x256
        w shapeCasts_S2x256_S2x1x256) shapeCasts_S2x1x256_S2x1x256)
        broadcasts_S2x1x256_S2x16x256) shapeCasts_S2x16x256_S32x256)
      (subi (broadcast S32x256 30#32) (muli (broadcast S32x256 2#32)
        (andi (iota .tc S32x256 32 [0] iota_S32x256_d0_w32) (broadcast S32x256 15#32)))))
    (broadcast S32x256 30#32))) bitsLt_bf16_f32

/-- Row `a` of four rows of words, read on eight rows. -/
def word8 (a : Fin 4) (w : IVec S4x256 32) (h : S4x256.Slices ![a.val, 0] S1x256) : IVec S8x256 32 :=
  broadcastTo S8x256 (shapeCast S1x256 (extractStridedSlice S1x256 ![a.val, 0] w h) shapeCasts_S1x256_S1x256)
    broadcasts_S1x256_S8x256

/-- The signed 3-bit field number `fld` of each word. -/
def three8 (word fld : IVec S8x256 32) : FVec F S8x256 .f32 :=
  sitofp .f32 (shrsi (shli word (subi (broadcast S8x256 29#32) (muli (broadcast S8x256 3#32) fld))) (broadcast S8x256 29#32))

/-- The eight row numbers from `b` on. -/
def rows8 (b : BitVec 32) : IVec S8x256 32 := addi (broadcast S8x256 b) (iota .tc S8x256 32 [0] iota_S8x256_d0_w32)

/-- Eight rows of 3-bit fields that begin in word `a` (field `row - 10 a`) and go on in the word after it from row
    `c` on. -/
def group8 (a a' : Fin 4) (b c c' : BitVec 32) (w : IVec S4x256 32) (h : S4x256.Slices ![a.val, 0] S1x256)
    (h' : S4x256.Slices ![a'.val, 0] S1x256) : FVec F S8x256 .f32 :=
  three8 (select (cmpi .sge (rows8 b) (broadcast S8x256 c')) (word8 a' w h') (word8 a w h))
    (select (cmpi .sge (rows8 b) (broadcast S8x256 c')) (subi (rows8 b) (broadcast S8x256 c')) (subi (rows8 b) (broadcast S8x256 c)))

/-- The 32 rows of signed 3-bit fields of four rows of words, ten fields a word. -/
def three32 (w : IVec S4x256 32) : FVec F S32x256 .bf16 :=
  truncf .bf16 (concatenate S32x256 0
    [⟨S8x256, three8 (word8 0 w slices_S4x256_o0_0_S1x256) (subi (rows8 0#32) (broadcast S8x256 0#32))⟩,
     ⟨S8x256, group8 0 1 8#32 0#32 10#32 w slices_S4x256_o0_0_S1x256 slices_S4x256_o1_0_S1x256⟩,
     ⟨S8x256, group8 1 2 16#32 10#32 20#32 w slices_S4x256_o1_0_S1x256 slices_S4x256_o2_0_S1x256⟩,
     ⟨S8x256, group8 2 3 24#32 20#32 30#32 w slices_S4x256_o2_0_S1x256 slices_S4x256_o3_0_S1x256⟩]
    concatenates_S8x256_S8x256_S8x256_S8x256_S32x256_d0) bitsLt_bf16_f32

/-- The 64 rows of codes of the second half: 30 rows of 2-bit fields, 2 of bytes, 32 of 3-bit fields. -/
def codesB (w2 : IVec S2x256 32) (w3 : IVec S4x256 32) (w8 : IVec S2x256 8) : FVec F S64x256 .bf16 :=
  concatenate S64x256 0
    [⟨S32x256, select (cmpi .slt (iota .tc S32x256 32 [0] iota_S32x256_d0_w32) (broadcast S32x256 30#32))
        (two32 (shapeCast S2x256 w2 shapeCasts_S2x256_S2x256))
        (truncf .bf16 (concatenate S32x256 0
          [⟨S30x256, broadcast S30x256 (Scalar.ofBits .f32 0x00000000#32)⟩,
           ⟨S2x256, sitofp .f32 (extsi 32 (shapeCast S2x256 w8 shapeCasts_S2x256_S2x256) natLt_8_32)⟩]
          concatenates_S30x256_S2x256_S32x256_d0) bitsLt_bf16_f32)⟩,
     ⟨S32x256, three32 (shapeCast S4x256 w3 shapeCasts_S4x256_S4x256)⟩]
    concatenates_S32x256_S32x256_S64x256_d0

/-- A tile of the first factor: 320 rows of codes, each half of 128 columns times its column of scales. -/
def vScaled (c : FVec F S320x256 .bf16) (s : FVec F S320x2 .bf16) : FVec F S320x256 .bf16 :=
  concatenate S320x256 1
    [⟨S320x128, mulf (extractStridedSlice S320x128 ![0, 0] c slices_S320x256_o0_0_S320x128)
        (broadcastTo S320x128 (extractStridedSlice S320x1 ![0, 0] s slices_S320x2_o0_0_S320x1) broadcasts_S320x1_S320x128)⟩,
     ⟨S320x128, mulf (extractStridedSlice S320x128 ![0, 128] c slices_S320x256_o0_128_S320x128)
        (broadcastTo S320x128 (extractStridedSlice S320x1 ![0, 1] s slices_S320x2_o0_1_S320x1) broadcasts_S320x1_S320x128)⟩]
    concatenates_S320x128_S320x128_S320x256_d1

def vTile (v2 : Vec F S18x7168 .i32) (v3 : Vec F S4x7168 .i32) (v8 : Vec F S2x7168 .i8) (vs : Vec F S320x56 .bf16) (k : Fin 28) :
    FVec F S320x256 .bf16 :=
  vScaled (concatenate S320x256 0
      [⟨S256x256, two256 (View.ld v2 (boxV2 k))⟩,
       ⟨S64x256, codesB (View.ld v2 (boxV2' k)) (View.ld v3 (boxV3 k)) (View.ld v8 (boxV8 k))⟩]
      concatenates_S256x256_S64x256_S320x256_d0)
    (shapeCast S320x2 (View.ld vs (boxVs k)) shapeCasts_S320x2_S320x2)

/-- Tile `k` of the left operand. -/
def xTile (x : Vec F S256x7168 .bf16) (k : Fin 28) : FVec F S256x256 .bf16 :=
  shapeCast S256x256 (View.ld x (boxX k)) shapeCasts_S256x256_S256x256

/-- The signed 4-bit fields of 128 rows of bytes, two a byte, low half first. -/
def four256 (b : IVec S128x256 8) : FVec F S256x256 .bf16 :=
  truncf .bf16 (sitofp .f32 (shrsi
    (shli (shapeCast S256x256 (broadcastTo S128x2x256 (shapeCast S128x1x256 (shapeCast S128x1x256
        (extui 32 b natLt_8_32) shapeCasts_S128x256_S128x1x256) shapeCasts_S128x1x256_S128x1x256)
        broadcasts_S128x1x256_S128x2x256) shapeCasts_S128x2x256_S256x256)
      (subi (broadcast S256x256 28#32) (muli (broadcast S256x256 4#32)
        (andi (iota .tc S256x256 32 [0] iota_S256x256_d0_w32) (broadcast S256x256 1#32)))))
    (broadcast S256x256 28#32))) bitsLt_bf16_f32

/-- Each half of 128 rows times its row of scales. -/
def wScaled (c : FVec F S256x256 .bf16) (s : FVec F S2x256 .bf16) : FVec F S256x256 .bf16 :=
  concatenate S256x256 0
    [⟨S128x256, mulf (extractStridedSlice S128x256 ![0, 0] c slices_S256x256_o0_0_S128x256)
        (broadcastTo S128x256 (extractStridedSlice S1x256 ![0, 0] s slices_S2x256_o0_0_S1x256) broadcasts_S1x256_S128x256)⟩,
     ⟨S128x256, mulf (extractStridedSlice S128x256 ![128, 0] c slices_S256x256_o128_0_S128x256)
        (broadcastTo S128x256 (extractStridedSlice S1x256 ![1, 0] s slices_S2x256_o1_0_S1x256) broadcasts_S1x256_S128x256)⟩]
    concatenates_S128x256_S128x256_S256x256_d0

/-- Tile `k` of the base weight, for the block's columns `256 j …`. -/
def wTile (w : Vec F S3584x1536 .i8) (s : Vec F S56x1536 .bf16) (k : Fin 28) (j : Fin 6) : FVec F S256x256 .bf16 :=
  wScaled (four256 (View.ld w (boxW k j))) (View.ld s (boxS k j))

/-- The second factor's tile of ranks 0…255 and of ranks 256…319 with zeros under them. -/
def uTile (u2 : Vec F S18x1536 .i32) (u3 : Vec F S4x1536 .i32) (u8 : Vec F S2x1536 .i8) (j : Fin 6) (e : Fin 2) : FVec F S256x256 .bf16 :=
  match e with
  | 0 => two256 (View.ld u2 (boxU2 j))
  | 1 => concatenate S256x256 0
      [⟨S64x256, codesB (View.ld u2 (boxU2' j)) (View.ld u3 (boxU3 j)) (View.ld u8 (boxU8 j))⟩,
       ⟨S192x256, broadcast S192x256 (Scalar.ofBits .bf16 0x0000#16)⟩]
      concatenates_S64x256_S192x256_S256x256_d0

/-! ## The two matrix units' sums -/

open Mxu (pushAcc)

/-- The unit and the register that tile `k` goes to where they alternate. -/
def par (k : Nat) : Fin 2 := ⟨k % 2, Nat.mod_lt _ (by decide)⟩

/-- The first factor times the left operand: tile `k` goes to unit `k % 2`. -/
def shrink (x : Vec F S256x7168 .bf16) (v2 : Vec F S18x7168 .i32) (v3 : Vec F S4x7168 .i32) (v8 : Vec F S2x7168 .i8)
    (vs : Vec F S320x56 .bf16) (st : Mxu F) : (n : Nat) → n ≤ 28 → Mxu F
  | 0, _ => st
  | n + 1, h => pushAcc (par n) 0 true 0 fits_0_320 (shrink x v2 v3 v8 vs st n (by omega))
      (xTile x ⟨n, h⟩) (vTile v2 v3 v8 vs ⟨n, h⟩)

/-- The base weight: tile `k` of the block columns `j` and `j'` on the two units. -/
def base (x : Vec F S256x7168 .bf16) (w : Vec F S3584x1536 .i8) (s : Vec F S56x1536 .bf16) (j j' : Fin 6)
    (A : Nat) (hA : Mxu.Fits A 256) (st : Mxu F) : (n : Nat) → n ≤ 28 → Mxu F
  | 0, _ => st
  | n + 1, h => pushAcc 1 (par n) false A hA
      (pushAcc 0 (par n) false A hA (base x w s j j' A hA st n (by omega)) (wTile w s ⟨n, h⟩ j) (xTile x ⟨n, h⟩))
      (wTile w s ⟨n, h⟩ j') (xTile x ⟨n, h⟩)

/-- The second factor added to both units' sums. -/
def expand (u2 : Vec F S18x1536 .i32) (u3 : Vec F S4x1536 .i32) (u8 : Vec F S2x1536 .i8) (t : Vec F S256x512 .bf16) (j j' : Fin 6)
    (A : Nat) (hA : Mxu.Fits A 256) (st : Mxu F) : Mxu F :=
  pushAcc 1 1 false A hA (pushAcc 0 1 false A hA (pushAcc 1 0 false A hA (pushAcc 0 0 false A hA st
      (uTile u2 u3 u8 j 0) (View.ld t (boxT 0))) (uTile u2 u3 u8 j' 0) (View.ld t (boxT 0)))
      (uTile u2 u3 u8 j 1) (View.ld t (boxT 1))) (uTile u2 u3 u8 j' 1) (View.ld t (boxT 1))

section Output

/-! The operand blocks one grid point's output is computed from. -/

variable (x : Vec F S256x7168 .bf16) (w : Vec F S3584x1536 .i8) (s : Vec F S56x1536 .bf16) (u2 : Vec F S18x1536 .i32)
  (u3 : Vec F S4x1536 .i32) (u8 : Vec F S2x1536 .i8) (t : Vec F S256x512 .bf16)

/-- The two units when a pair of block columns is summed up, and when its two sums are taken out. -/
def summed (j j' : Fin 6) (A : Nat) (hA : Mxu.Fits A 256) (st : Mxu F) : Mxu F :=
  expand u2 u3 u8 t j j' A hA (base x w s j j' A hA st 28 (by decide))

def popped (A : Nat) (hA : Mxu.Fits A 256) (st : Mxu F) : Mxu F := (st.pop 0 A 256 hA).pop 1 A 256 hA

/-- The two units' state after the pairs before pair `p`. -/
def before (st : Mxu F) : Fin 3 → Mxu F
  | 0 => st
  | 1 => popped 80 fits_80_256 (summed x w s u2 u3 u8 t 0 1 80 fits_80_256 st)
  | 2 => popped 144 fits_144_256 (summed x w s u2 u3 u8 t 2 3 144 fits_144_256 (popped 80 fits_80_256 (summed x w s u2 u3 u8 t 0 1 80 fits_80_256 st)))

/-- The tile of the output at block column `j`. -/
def outTile (st : Mxu F) (j : Fin 6) : FVec F S256x256 .bf16 :=
  truncf .bf16 (match j with
    | 0 => (summed x w s u2 u3 u8 t 0 1 80 fits_80_256 (before x w s u2 u3 u8 t st 0)).read 0 80 fits_80_256
    | 1 => ((summed x w s u2 u3 u8 t 0 1 80 fits_80_256 (before x w s u2 u3 u8 t st 0)).pop 0 80 256 fits_80_256).read 1 80 fits_80_256
    | 2 => (summed x w s u2 u3 u8 t 2 3 144 fits_144_256 (before x w s u2 u3 u8 t st 1)).read 0 144 fits_144_256
    | 3 => ((summed x w s u2 u3 u8 t 2 3 144 fits_144_256 (before x w s u2 u3 u8 t st 1)).pop 0 144 256 fits_144_256).read 1 144 fits_144_256
    | 4 => (summed x w s u2 u3 u8 t 4 5 80 fits_80_256 (before x w s u2 u3 u8 t st 2)).read 0 80 fits_80_256
    | 5 => ((summed x w s u2 u3 u8 t 4 5 80 fits_80_256 (before x w s u2 u3 u8 t st 2)).pop 0 80 256 fits_80_256).read 1 80 fits_80_256) bitsLt_bf16_f32

/-- The output block's tiles, last stored first. -/
def outPieces (st : Mxu F) : List (View.Piece (Elt F) S256x1536 .bf16) :=
  [⟨boxO 5, outTile x w s u2 u3 u8 t st 5⟩, ⟨boxO 4, outTile x w s u2 u3 u8 t st 4⟩, ⟨boxO 3, outTile x w s u2 u3 u8 t st 3⟩, ⟨boxO 2, outTile x w s u2 u3 u8 t st 2⟩,
   ⟨boxO 1, outTile x w s u2 u3 u8 t st 1⟩, ⟨boxO 0, outTile x w s u2 u3 u8 t st 0⟩]

end Output

/-- What the first grid point computes once and keeps: the product with the first factor, times the diagonal. -/
def tMain (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : FVec F S256x384 .bf16 :=
  truncf .bf16 (mulf (transpose S256x384 [1, 0] (concatenate S384x256 0
      [⟨S320x256, addf ((shrink x v2 v3 v8 vs Mxu.init 28 (by decide)).read 0 0 fits_0_320)
          (((shrink x v2 v3 v8 vs Mxu.init 28 (by decide)).pop 0 0 320 fits_0_320).read 1 0 fits_0_320)⟩,
       ⟨S64x256, broadcast S64x256 (Scalar.ofBits .f32 0x00000000#32)⟩] concatenates_S320x256_S64x256_S384x256_d0)
      transposes_S384x256_p1_0_S256x384)
    (broadcastTo S256x384 (concatenate S1x384 1
      [⟨S1x320, mulf (shapeCast S1x320 (View.ld sg (Rect.unit (s := S1x320) ![0, 0] S1x320.size inb_S1x320_S1x320_0_0)) shapeCasts_S1x320_S1x320)
          (extf .f32 (shapeCast S1x320 (View.ld us (Rect.unit (s := S1x320) ![0, 0] S1x320.size inb_S1x320_S1x320_0_0)) shapeCasts_S1x320_S1x320) bitsLt_bf16_f32)⟩,
       ⟨S1x64, broadcast S1x64 (Scalar.ofBits .f32 0x00000000#32)⟩] concatenates_S1x320_S1x64_S1x384_d1)
      broadcasts_S1x384_S256x384)) bitsLt_bf16_f32

def tPieces (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : List (View.Piece (Elt F) S256x512 .bf16) :=
  [⟨boxT128, shapeCast S256x128 (broadcast S256x128 (Scalar.ofBits .bf16 0x0000#16)) shapeCasts_S256x128_S256x128⟩,
   ⟨boxT384, shapeCast S256x384 (tMain x v2 v3 v8 vs us sg) shapeCasts_S256x384_S256x384⟩]

/-- The units' state the first point leaves to the output's sums. -/
def stFirst (x : Vec F S256x7168 .bf16) (v2 : Vec F S18x7168 .i32) (v3 : Vec F S4x7168 .i32) (v8 : Vec F S2x7168 .i8)
    (vs : Vec F S320x56 .bf16) : Mxu F :=
  ((shrink x v2 v3 v8 vs Mxu.init 28 (by decide)).pop 0 0 320 fits_0_320).pop 1 0 320 fits_0_320

end Cert.Kernel.Hand

end

end
-- ==== Proof.K.Held.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim

@[expose] public section

set_option maxRecDepth 16384

/-! # A memref's buffer held by a core, and the body's branch condition -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, -/
abbrev Bf (c : Dev nD) {sp : Space} {S : Shape} {e : EltTy} (M : Memref sig .tc sp S e) : Type := Buf (Elt F) (M.view.loc (c : Thread nD τ))
/-- and its cells held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The condition of the body's one branch, as the program computes it from the grid point. -/
abbrev cond (i : grid0.Coords) : BitVec 1 :=
  Scalar.cmpi .ne (Scalar.extui (Scalar.cmpi .eq (BitVec.ofNat 32 (i 0).val) 0#32)) 0#32

end Cert.Kernel.Hand

end

end
-- ==== Proof.K.RunLater.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim
public import proofs.«01_k».proof.Proof.K.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def runLater (c : Dev nD) (i : grid0.Coords) (hc : ¬ cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f14 : Bf (F := F) c arg14) :
    { W : Bf (F := F) c arg13 //
      ∀ (f13 : Bf (F := F) c arg13) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 W ∗ pt c arg14 f14) -∗ Q ⟨⟩))
        ⊢ wp frame (wpE (defs₀ (F := F)) Variants.none c none) E
            (cc0_delta_linear i arg1 harg1 arg2 harg2 arg3 harg3 arg4 harg4 arg5 harg5 arg6 harg6 arg7 harg7 arg8 harg8 arg9 harg9 arg10 harg10 arg11 harg11 arg12 harg12 arg13 harg13 arg14 harg14) Q } := by
  refine ⟨?_, fun f13 E Q => ?run⟩
  case run =>
    iintro ⟨H1, H2, H3, H4, H5, H6, H7, H8, H9, H10, H11, H12, H13, H14, Hk⟩
    sl_exec_parts! (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Kernel.Hand
-- ==== Proof.K.RunFirst.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim
public import proofs.«01_k».proof.Proof.K.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def runFirst (c : Dev nD) (i : grid0.Coords) (hc : cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    { W : Bf (F := F) c arg13 × Bf (F := F) c arg14 //
      ∀ (f13 : Bf (F := F) c arg13) (f14 : Bf (F := F) c arg14) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 W.1 ∗ pt c arg14 W.2) -∗ Q ⟨⟩))
        ⊢ wp frame (wpE (defs₀ (F := F)) Variants.none c none) E
            (cc0_delta_linear i arg1 harg1 arg2 harg2 arg3 harg3 arg4 harg4 arg5 harg5 arg6 harg6 arg7 harg7 arg8 harg8 arg9 harg9 arg10 harg10 arg11 harg11 arg12 harg12 arg13 harg13 arg14 harg14) Q } := by
  refine ⟨⟨?_, ?_⟩, fun f13 f14 E Q => ?run⟩
  case run =>
    iintro ⟨H1, H2, H3, H4, H5, H6, H7, H8, H9, H10, H11, H12, H13, H14, Hk⟩
    sl_exec_parts! (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Kernel.Hand
-- ==== Proof.K.Link.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim
public import proofs.«01_k».proof.Proof.K.Spec
public import proofs.«01_k».proof.Proof.K.RunLater
public import proofs.«01_k».proof.Proof.K.RunFirst

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
theorem runLater_val (c : Dev nD) (i : grid0.Coords) (hc : ¬ cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f14 : Bf (F := F) c arg14) :
    (runLater c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14).1
      = arg13.view.writes (Elt F) arg13.view.junk (outPieces
        (arg1.view.read (Elt F) f1) (arg2.view.read (Elt F) f2) (arg3.view.read (Elt F) f3) (arg7.view.read (Elt F) f7) (arg8.view.read (Elt F) f8) (arg9.view.read (Elt F) f9) (arg14.view.read (Elt F) f14) Mxu.init) := by exact rfl

set_option maxHeartbeats 0 in
theorem runFirst_val (c : Dev nD) (i : grid0.Coords) (hc : cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    (runFirst c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12).1
      = (arg13.view.writes (Elt F) arg13.view.junk (outPieces
          (arg1.view.read (Elt F) f1) (arg2.view.read (Elt F) f2) (arg3.view.read (Elt F) f3) (arg7.view.read (Elt F) f7) (arg8.view.read (Elt F) f8) (arg9.view.read (Elt F) f9)
          (arg14.view.read (Elt F) (arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))))
          (stFirst (arg1.view.read (Elt F) f1) (arg4.view.read (Elt F) f4) (arg5.view.read (Elt F) f5) (arg6.view.read (Elt F) f6) (arg10.view.read (Elt F) f10))),
        arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))) := by exact rfl

end Cert.Kernel.Hand

end

end
-- ==== Proof.K.Body.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim
public import proofs.«01_k».proof.Proof.K.Link
public import proofs.«01_k».proof.Proof.K.RunLater
public import proofs.«01_k».proof.Proof.K.RunFirst

@[expose] public section

set_option maxRecDepth 16384

/-! # The kernel body's triples, at the first grid point and at the later ones -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a grid point leaves -/

/-- What the first point leaves in the scratch buffer. -/
def tOf (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : Vec F S256x512 .bf16 :=
  View.canon (tPieces x v2 v3 v8 vs us sg)

/-- What a point leaves in the output block, from the units' state `st`. -/
def outOf (x : Vec F S256x7168 .bf16) (w : Vec F S3584x1536 .i8) (s : Vec F S56x1536 .bf16) (u2 : Vec F S18x1536 .i32)
    (u3 : Vec F S4x1536 .i32) (u8 : Vec F S2x1536 .i8) (t : Vec F S256x512 .bf16) (st : Mxu F) : Vec F S256x1536 .bf16 :=
  View.canon (outPieces x w s u2 u3 u8 t st)

theorem cover_out (p5 p4 p3 p2 p1 p0 : Vec F S256x256 .bf16) (y : S256x1536.Idx) :
    ∃ pc ∈ ([⟨boxO 5, p5⟩, ⟨boxO 4, p4⟩, ⟨boxO 3, p3⟩, ⟨boxO 2, p2⟩, ⟨boxO 1, p1⟩, ⟨boxO 0, p0⟩] : List (View.Piece (Elt F) S256x1536 .bf16)),
      y ∈ pc.1.set :=
  View.cover_of_tiled [⟨boxO 5, p5⟩, ⟨boxO 4, p4⟩, ⟨boxO 3, p3⟩, ⟨boxO 2, p2⟩, ⟨boxO 1, p1⟩, ⟨boxO 0, p0⟩] S256x256.size (by rfl) y

theorem cover_t (p1 : Vec F S256x128 .bf16) (p0 : Vec F S256x384 .bf16) (y : S256x512.Idx) :
    ∃ pc ∈ ([⟨boxT128, p1⟩, ⟨boxT384, p0⟩] : List (View.Piece (Elt F) S256x512 .bf16)), y ∈ pc.1.set := by
  have h0 : (y 0).val < 256 := (y 0).isLt
  have h1 : (y 1).val < 512 := (y 1).isLt
  by_cases h : 384 ≤ (y 1).val
  · refine ⟨⟨boxT128, p1⟩, List.mem_cons_self, (Rect.mem_set_unit (inb := inb_S256x512_S256x128_0_384)).mpr fun a => ?_⟩
    match a with
    | 0 => exact ⟨Nat.zero_le _, by show (y 0).val < 0 + 256; omega⟩
    | 1 => exact ⟨h, by show (y 1).val < 384 + 128; omega⟩
  · refine ⟨⟨boxT384, p0⟩, List.mem_cons_of_mem _ List.mem_cons_self, (Rect.mem_set_unit (inb := inb_S256x512_S256x384_0_0)).mpr fun a => ?_⟩
    match a with
    | 0 => exact ⟨Nat.zero_le _, by show (y 0).val < 0 + 256; omega⟩
    | 1 => exact ⟨Nat.zero_le _, by show (y 1).val < 0 + 384; omega⟩

theorem read_out {sp : Space} (v : View sig .tc sp S256x1536 .bf16) (x : Vec F S256x7168 .bf16) (w : Vec F S3584x1536 .i8)
    (s : Vec F S56x1536 .bf16) (u2 : Vec F S18x1536 .i32) (u3 : Vec F S4x1536 .i32) (u8 : Vec F S2x1536 .i8)
    (t : Vec F S256x512 .bf16) (st : Mxu F) :
    v.read (Elt F) (v.writes (Elt F) v.junk (outPieces x w s u2 u3 u8 t st)) = outOf x w s u2 u3 u8 t st :=
  View.read_writes_eq_canon _ _ _ (cover_out _ _ _ _ _ _)

theorem read_t {sp : Space} (v : View sig .tc sp S256x512 .bf16) (x : Vec F S256x7168 .bf16) (v2 : Vec F S18x7168 .i32)
    (v3 : Vec F S4x7168 .i32) (v8 : Vec F S2x7168 .i8) (vs : Vec F S320x56 .bf16) (us : Vec F S1x320 .bf16) (sg : Vec F S1x320 .f32) :
    v.read (Elt F) (v.writes (Elt F) v.junk (tPieces x v2 v3 v8 vs us sg)) = tOf x v2 v3 v8 vs us sg :=
  View.read_writes_eq_canon _ _ _ (cover_t _ _)

/-! ## The body's triples -/

/-- The body at a point after the first: the output block at `outOf` of the operands' blocks and the scratch buffer's
    contents, which it keeps. -/
theorem sound_later (c : Dev nD) (i : grid0.Coords) (hc : ¬ cond i = 1#1) (E : Set ℕ)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (x0 : Vec F S256x7168 .bf16) (x1 : Vec F S3584x1536 .i8) (x2 : Vec F S56x1536 .bf16) (x3 : Vec F S18x7168 .i32) (x4 : Vec F S4x7168 .i32) (x5 : Vec F S2x7168 .i8) (x6 : Vec F S18x1536 .i32) (x7 : Vec F S4x1536 .i32) (x8 : Vec F S2x1536 .i8) (x9 : Vec F S320x56 .bf16) (x10 : Vec F S1x320 .bf16) (x11 : Vec F S1x320 .f32) (xt : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf x0 x1 x2 x6 x7 x8 xt Mxu.init) ∗ owns (c : Thread nD τ) arg14 fullShare xt) -∗ K ⟨⟩))
      ⊢ wp frame (wpE (defs₀ (F := F)) Variants.none c none) E (cc0_delta_linear i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf1 hf2 hf3 hf4 hf5 hf6 hf7 hf8 hf9 hf10 hf11 hf12 hf14
  have hv := runLater_val c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14
  generalize runLater c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14 = R at hv
  obtain ⟨W, hW⟩ := R
  subst hv
  iapply (hW f13 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact read_out ..
  iexists f14; isplitr; · ipureintro; rfl
  iexact H14

/-- The body at the first point: the scratch buffer at `tOf` of the operands' blocks, whatever it held, and the output
    block at `outOf` of that. -/
theorem sound_first (c : Dev nD) (i : grid0.Coords) (hc : cond i = 1#1) (E : Set ℕ)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (x0 : Vec F S256x7168 .bf16) (x1 : Vec F S3584x1536 .i8) (x2 : Vec F S56x1536 .bf16) (x3 : Vec F S18x7168 .i32) (x4 : Vec F S4x7168 .i32) (x5 : Vec F S2x7168 .i8) (x6 : Vec F S18x1536 .i32) (x7 : Vec F S4x1536 .i32) (x8 : Vec F S2x1536 .i8) (x9 : Vec F S320x56 .bf16) (x10 : Vec F S1x320 .bf16) (x11 : Vec F S1x320 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf x0 x1 x2 x6 x7 x8 (tOf x0 x3 x4 x5 x9 x10 x11) (stFirst x0 x3 x4 x5 x9)) ∗ owns (c : Thread nD τ) arg14 fullShare (tOf x0 x3 x4 x5 x9 x10 x11)) -∗ K ⟨⟩))
      ⊢ wp frame (wpE (defs₀ (F := F)) Variants.none c none) E (cc0_delta_linear i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1 hf2 hf3 hf4 hf5 hf6 hf7 hf8 hf9 hf10 hf11 hf12
  have hT := read_t arg14.view (arg1.view.read (Elt F) f1) (arg4.view.read (Elt F) f4) (arg5.view.read (Elt F) f5) (arg6.view.read (Elt F) f6) (arg10.view.read (Elt F) f10) (arg11.view.read (Elt F) f11) (arg12.view.read (Elt F) f12)
  have hv := runFirst_val c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12
  rw [hT] at hv
  generalize runFirst c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 = R at hv
  obtain ⟨⟨W13, W14⟩, hW⟩ := R
  obtain ⟨h13, h14⟩ := Prod.mk.inj hv
  dsimp only at hW
  subst h13 h14
  iapply (hW f13 f14 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact read_out ..
  iexists (arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))); isplitr
  · ipureintro; exact hT
  iexact H14

end Cert.Kernel.Hand

end

end
-- ==== Proof.K.Run.lean ====
module

public import proofs.«01_k».proof.Proof.Gen.Kernel.Frame
public import proofs.«01_k».proof.Proof.Gen.Kernel.Points
public import proofs.«01_k».proof.Proof.Gen.Kernel.Launch
public import proofs.«01_k».proof.Proof.Gen.Kernel.Skeleton
public import Idealize.ShloMosaic.Lib.Claim
public import proofs.«01_k».proof.Proof.K.Body
public import proofs.«01_k».proof.Proof.K.RunLater
public import proofs.«01_k».proof.Proof.K.RunFirst

@[expose] public section

set_option maxRecDepth 16384

/-! # The kernel's run: its proof data, the body's obligation at every grid point, and the frame -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The grid's first point, as the pipeline numbers its points. -/
abbrev pt0 : Fin cfg0.N := t0_0

/-- What the scratch buffer holds from the first point on. -/
def tAt (c : Dev nD) : Vec F S256x512 .bf16 :=
  tOf (iblk m c 0 pt0) (iblk m c 3 pt0) (iblk m c 4 pt0) (iblk m c 5 pt0) (iblk m c 9 pt0) (iblk m c 10 pt0) (iblk m c 11 pt0)

/-- The matrix units' state that the sums of point `t` start from. -/
def stAt (c : Dev nD) (t : Fin cfg0.N) : Mxu F :=
  if t.val = 0 then stFirst (iblk m c 0 pt0) (iblk m c 3 pt0) (iblk m c 4 pt0) (iblk m c 5 pt0) (iblk m c 9 pt0) else Mxu.init

/-- What the body leaves in the output block at point `t`. -/
def outAt (c : Dev nD) (t : Fin cfg0.N) : Vec F S256x1536 .bf16 :=
  outOf (iblk m c 0 t) (iblk m c 1 t) (iblk m c 2 t) (iblk m c 6 t) (iblk m c 7 t) (iblk m c 8 t) (tAt m c) (stAt m c t)

/-- The scratch buffer before point `t`: anything before the first point, `tAt` after it. -/
def scratch (c : Dev nD) (t : Fin (cfg0.N + 1)) : sProp 𝕄 :=
  if t.val = 0 then iprop(∃ d, owns (c : Thread nD τ) (Memref.whole cc0_scratch0) fullShare d)
  else owns (c : Thread nD τ) (Memref.whole cc0_scratch0) fullShare (tAt m c)

theorem scratch_zero (c : Dev nD) (t : Fin (cfg0.N + 1)) (h : t.val = 0) :
    scratch m c t = iprop(∃ d, owns (c : Thread nD τ) (Memref.whole cc0_scratch0) fullShare d) := if_pos h

theorem scratch_pos (c : Dev nD) (t : Fin (cfg0.N + 1)) (h : ¬ t.val = 0) :
    scratch m c t = owns (c : Thread nD τ) (Memref.whole cc0_scratch0) fullShare (tAt m c) := if_neg h

theorem outAt_zero (c : Dev nD) (t : Fin cfg0.N) (h : t.val = 0) :
    outAt m c t = outOf (iblk m c 0 t) (iblk m c 1 t) (iblk m c 2 t) (iblk m c 6 t) (iblk m c 7 t) (iblk m c 8 t) (tAt m c)
      (stFirst (iblk m c 0 pt0) (iblk m c 3 pt0) (iblk m c 4 pt0) (iblk m c 5 pt0) (iblk m c 9 pt0)) := by
  unfold outAt stAt; rw [if_pos h]

theorem outAt_pos (c : Dev nD) (t : Fin cfg0.N) (h : ¬ t.val = 0) :
    outAt m c t = outOf (iblk m c 0 t) (iblk m c 1 t) (iblk m c 2 t) (iblk m c 6 t) (iblk m c 7 t) (iblk m c 8 t) (tAt m c)
      Mxu.init := by
  unfold outAt stAt; rw [if_neg h]

/-- The branch is taken at the first point, -/
theorem cond_zero (t : Fin cfg0.N) (h : t.val = 0) : cond (grid0.coords t) = 1#1 := by
  revert h; revert t; decide

/-- and at no other. -/
theorem cond_pos (t : Fin cfg0.N) (h : ¬ t.val = 0) : ¬ cond (grid0.coords t) = 1#1 := by
  revert h; revert t; decide

/-- The proof data: the arrays as the region finds them; after the body at point `t` each input's buffer at its block and
    the output's at `outAt`; the invariant the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := iprop(scratch m c t ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' memrefs hold their blocks, so the body's triple of its branch applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = iprop(scratch m c t.succ ∗ ∃ r, prngReg c r) from rfl,
    show (dats m 0 c).Φ t.castSucc = iprop(scratch m c t.castSucc ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12]
  by_cases h0 : t.val = 0
  · obtain rfl : t = pt0 := Fin.ext h0
    have h0 : (pt0 : Fin cfg0.N).val = 0 := rfl
    rw [scratch_zero m c pt0.castSucc h0, scratch_pos m c pt0.succ (by simp), outAt_zero m c pt0 h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_first c (grid0.coords pt0) (cond_zero pt0 h0) Set.univ _ _ _ _ _ _ _ _ _ _ _ _ _ _ _ _ _ _ _ _ _ _ _ _ _ _ _ _ (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · skip
    rw [scratch_pos m c t.castSucc h0, scratch_pos m c t.succ (by simp), outAt_pos m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_later c (grid0.coords t) (cond_pos t h0) Set.univ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (tAt m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem scratch_set : (Memref.whole cc0_scratch0 : Memref sig .tc _ _ _).view.set = Finset.univ := by
  rw [Memref.view_whole, View.set_whole]

/-- Before the first point the scratch buffer holds anything, -/
theorem enter (c : Dev nD) : Pipeline.ΦA spec0 c ⊢ (dats (F := F) m 0 c).Φ 0 := by
  rw [show (dats m 0 c).Φ 0 = iprop(scratch m c 0 ∗ ∃ r, prngReg c r) from rfl, scratch_zero m c 0 rfl]
  unfold Pipeline.ΦA
  rw [scopedRest0_eq]
  unfold owns
  iintro ⟨⟨%f, HS⟩, Hg⟩
  isplitl [HS]
  · iexists _, f
    isplitr; · ipureintro; rfl
    rw [scratch_set]
    iexact HS
  iexact Hg

/-- and after the last what it holds is forgotten. -/
theorem leave (c : Dev nD) : (dats (F := F) m 0 c).Φ (Fin.last cfg0.N) ⊢ Pipeline.ΦA spec0 c := by
  rw [show (dats m 0 c).Φ (Fin.last cfg0.N) = iprop(scratch m c (Fin.last cfg0.N) ∗ ∃ r, prngReg c r) from rfl,
    scratch_pos m c (Fin.last cfg0.N) (by rw [Fin.val_last]; show ¬ grid0.N = 0; rw [N_0]; decide)]
  unfold Pipeline.ΦA
  rw [scopedRest0_eq]
  unfold owns
  rw [scratch_set]
  iintro ⟨⟨%f, %hf, HS⟩, Hg⟩
  isplitl [HS]
  · iexists f
    iexact HS
  iexact Hg

-- the run theorem's implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- Every weakly fair execution of @main ends, with every array of the pipeline at what the proof data give it and every
    other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Hand

end

end
-- ==== Proof.KI.Spec.lean ====
module

public import proofs.«01_k».proof.Proof.Gen.KernelIdeal.Frame
public import Idealize.ShloMosaic.Lib.Claim
public import Idealize.ShloMosaic.Lib.Mxu.PassChain

/-! # What the kernel body computes, as functions of its operand blocks

The body decodes packed integer fields to tiles of weights, runs the tiles through the two matrix units, and writes
the two units' sums. These definitions write the same operations as functions: of the tile's number where the body
is unrolled. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The boxes of the operand blocks -/

abbrev boxX (k : Fin 28) : Rect S256x7168 := Rect.unit (s := S256x7168) ![0, 256 * k.val] S256x256.size
  (by revert k; decide)
abbrev boxW (k : Fin 28) (j : Fin 6) : Rect S3584x1536 := Rect.unit (s := S3584x1536) ![128 * k.val, 256 * j.val] S128x256.size
  (by revert k j; decide)
abbrev boxS (k : Fin 28) (j : Fin 6) : Rect S56x1536 := Rect.unit (s := S56x1536) ![2 * k.val, 256 * j.val] S2x256.size
  (by revert k j; decide)
abbrev boxV2 (k : Fin 28) : Rect S18x7168 := Rect.unit (s := S18x7168) ![0, 256 * k.val] S16x256.size
  (by revert k; decide)
abbrev boxV2' (k : Fin 28) : Rect S18x7168 := Rect.unit (s := S18x7168) ![16, 256 * k.val] S2x256.size
  (by revert k; decide)
abbrev boxV3 (k : Fin 28) : Rect S4x7168 := Rect.unit (s := S4x7168) ![0, 256 * k.val] S4x256.size
  (by revert k; decide)
abbrev boxV8 (k : Fin 28) : Rect S2x7168 := Rect.unit (s := S2x7168) ![0, 256 * k.val] S2x256.size
  (by revert k; decide)
abbrev boxVs (k : Fin 28) : Rect S320x56 := Rect.unit (s := S320x56) ![0, 2 * k.val] S320x2.size
  (by revert k; decide)
abbrev boxU2 (j : Fin 6) : Rect S18x1536 := Rect.unit (s := S18x1536) ![0, 256 * j.val] S16x256.size
  (by revert j; decide)
abbrev boxU2' (j : Fin 6) : Rect S18x1536 := Rect.unit (s := S18x1536) ![16, 256 * j.val] S2x256.size
  (by revert j; decide)
abbrev boxU3 (j : Fin 6) : Rect S4x1536 := Rect.unit (s := S4x1536) ![0, 256 * j.val] S4x256.size
  (by revert j; decide)
abbrev boxU8 (j : Fin 6) : Rect S2x1536 := Rect.unit (s := S2x1536) ![0, 256 * j.val] S2x256.size
  (by revert j; decide)
abbrev boxO (j : Fin 6) : Rect S256x1536 := Rect.unit (s := S256x1536) ![0, 256 * j.val] S256x256.size
  (by revert j; decide)
abbrev boxT (e : Fin 2) : Rect S256x512 := Rect.unit (s := S256x512) ![0, 256 * e.val] S256x256.size
  (by revert e; decide)
abbrev boxRow {n : Nat} : Rect S1x320 := Rect.unit (s := S1x320) ![0, 0] S1x320.size inb_S1x320_S1x320_0_0
abbrev boxT384 : Rect S256x512 := Rect.unit (s := S256x512) ![0, 0] S256x384.size inb_S256x512_S256x384_0_0
abbrev boxT128 : Rect S256x512 := Rect.unit (s := S256x512) ![0, 384] S256x128.size inb_S256x512_S256x128_0_384

/-! ## Decoding a tile of packed fields -/

/-- The signed 2-bit fields of 16 rows of words, 16 fields a word, lowest field first. -/
def two256 (w : IVec S16x256 32) : FVec F S256x256 .bf16 :=
  truncf .bf16 (sitofp .f32 (shrsi
    (shli (shapeCast S256x256 (broadcastTo S16x16x256 (shapeCast S16x1x256 (shapeCast S16x1x256
        (shapeCast S16x256 w shapeCasts_S16x256_S16x256) shapeCasts_S16x256_S16x1x256) shapeCasts_S16x1x256_S16x1x256)
        broadcasts_S16x1x256_S16x16x256) shapeCasts_S16x16x256_S256x256)
      (subi (broadcast S256x256 30#32) (muli (broadcast S256x256 2#32)
        (andi (iota .tc S256x256 32 [0] iota_S256x256_d0_w32) (broadcast S256x256 15#32)))))
    (broadcast S256x256 30#32))) bitsLt_bf16_f32

/-- The same of two rows of words. -/
def two32 (w : IVec S2x256 32) : FVec F S32x256 .bf16 :=
  truncf .bf16 (sitofp .f32 (shrsi
    (shli (shapeCast S32x256 (broadcastTo S2x16x256 (shapeCast S2x1x256 (shapeCast S2x1x256
        w shapeCasts_S2x256_S2x1x256) shapeCasts_S2x1x256_S2x1x256)
        broadcasts_S2x1x256_S2x16x256) shapeCasts_S2x16x256_S32x256)
      (subi (broadcast S32x256 30#32) (muli (broadcast S32x256 2#32)
        (andi (iota .tc S32x256 32 [0] iota_S32x256_d0_w32) (broadcast S32x256 15#32)))))
    (broadcast S32x256 30#32))) bitsLt_bf16_f32

/-- Row `a` of four rows of words, read on eight rows. -/
def word8 (a : Fin 4) (w : IVec S4x256 32) (h : S4x256.Slices ![a.val, 0] S1x256) : IVec S8x256 32 :=
  broadcastTo S8x256 (shapeCast S1x256 (extractStridedSlice S1x256 ![a.val, 0] w h) shapeCasts_S1x256_S1x256)
    broadcasts_S1x256_S8x256

/-- The signed 3-bit field number `fld` of each word. -/
def three8 (word fld : IVec S8x256 32) : FVec F S8x256 .f32 :=
  sitofp .f32 (shrsi (shli word (subi (broadcast S8x256 29#32) (muli (broadcast S8x256 3#32) fld))) (broadcast S8x256 29#32))

/-- The eight row numbers from `b` on. -/
def rows8 (b : BitVec 32) : IVec S8x256 32 := addi (broadcast S8x256 b) (iota .tc S8x256 32 [0] iota_S8x256_d0_w32)

/-- Eight rows of 3-bit fields that begin in word `a` (field `row - 10 a`) and go on in the word after it from row
    `c` on. -/
def group8 (a a' : Fin 4) (b c c' : BitVec 32) (w : IVec S4x256 32) (h : S4x256.Slices ![a.val, 0] S1x256)
    (h' : S4x256.Slices ![a'.val, 0] S1x256) : FVec F S8x256 .f32 :=
  three8 (select (cmpi .sge (rows8 b) (broadcast S8x256 c')) (word8 a' w h') (word8 a w h))
    (select (cmpi .sge (rows8 b) (broadcast S8x256 c')) (subi (rows8 b) (broadcast S8x256 c')) (subi (rows8 b) (broadcast S8x256 c)))

/-- The 32 rows of signed 3-bit fields of four rows of words, ten fields a word. -/
def three32 (w : IVec S4x256 32) : FVec F S32x256 .bf16 :=
  truncf .bf16 (concatenate S32x256 0
    [⟨S8x256, three8 (word8 0 w slices_S4x256_o0_0_S1x256) (subi (rows8 0#32) (broadcast S8x256 0#32))⟩,
     ⟨S8x256, group8 0 1 8#32 0#32 10#32 w slices_S4x256_o0_0_S1x256 slices_S4x256_o1_0_S1x256⟩,
     ⟨S8x256, group8 1 2 16#32 10#32 20#32 w slices_S4x256_o1_0_S1x256 slices_S4x256_o2_0_S1x256⟩,
     ⟨S8x256, group8 2 3 24#32 20#32 30#32 w slices_S4x256_o2_0_S1x256 slices_S4x256_o3_0_S1x256⟩]
    concatenates_S8x256_S8x256_S8x256_S8x256_S32x256_d0) bitsLt_bf16_f32

/-- The 64 rows of codes of the second half: 30 rows of 2-bit fields, 2 of bytes, 32 of 3-bit fields. -/
def codesB (w2 : IVec S2x256 32) (w3 : IVec S4x256 32) (w8 : IVec S2x256 8) : FVec F S64x256 .bf16 :=
  concatenate S64x256 0
    [⟨S32x256, select (cmpi .slt (iota .tc S32x256 32 [0] iota_S32x256_d0_w32) (broadcast S32x256 30#32))
        (two32 (shapeCast S2x256 w2 shapeCasts_S2x256_S2x256))
        (truncf .bf16 (concatenate S32x256 0
          [⟨S30x256, broadcast S30x256 (Scalar.ofBits .f32 0x00000000#32)⟩,
           ⟨S2x256, sitofp .f32 (extsi 32 (shapeCast S2x256 w8 shapeCasts_S2x256_S2x256) natLt_8_32)⟩]
          concatenates_S30x256_S2x256_S32x256_d0) bitsLt_bf16_f32)⟩,
     ⟨S32x256, three32 (shapeCast S4x256 w3 shapeCasts_S4x256_S4x256)⟩]
    concatenates_S32x256_S32x256_S64x256_d0

/-- A tile of the first factor: 320 rows of codes, each half of 128 columns times its column of scales. -/
def vScaled (c : FVec F S320x256 .bf16) (s : FVec F S320x2 .bf16) : FVec F S320x256 .bf16 :=
  concatenate S320x256 1
    [⟨S320x128, mulf (extractStridedSlice S320x128 ![0, 0] c slices_S320x256_o0_0_S320x128)
        (broadcastTo S320x128 (extractStridedSlice S320x1 ![0, 0] s slices_S320x2_o0_0_S320x1) broadcasts_S320x1_S320x128)⟩,
     ⟨S320x128, mulf (extractStridedSlice S320x128 ![0, 128] c slices_S320x256_o0_128_S320x128)
        (broadcastTo S320x128 (extractStridedSlice S320x1 ![0, 1] s slices_S320x2_o0_1_S320x1) broadcasts_S320x1_S320x128)⟩]
    concatenates_S320x128_S320x128_S320x256_d1

def vTile (v2 : Vec F S18x7168 .i32) (v3 : Vec F S4x7168 .i32) (v8 : Vec F S2x7168 .i8) (vs : Vec F S320x56 .bf16) (k : Fin 28) :
    FVec F S320x256 .bf16 :=
  vScaled (concatenate S320x256 0
      [⟨S256x256, two256 (View.ld v2 (boxV2 k))⟩,
       ⟨S64x256, codesB (View.ld v2 (boxV2' k)) (View.ld v3 (boxV3 k)) (View.ld v8 (boxV8 k))⟩]
      concatenates_S256x256_S64x256_S320x256_d0)
    (shapeCast S320x2 (View.ld vs (boxVs k)) shapeCasts_S320x2_S320x2)

/-- Tile `k` of the left operand. -/
def xTile (x : Vec F S256x7168 .bf16) (k : Fin 28) : FVec F S256x256 .bf16 :=
  shapeCast S256x256 (View.ld x (boxX k)) shapeCasts_S256x256_S256x256

/-- The signed 4-bit fields of 128 rows of bytes, two a byte, low half first. -/
def four256 (b : IVec S128x256 8) : FVec F S256x256 .bf16 :=
  truncf .bf16 (sitofp .f32 (shrsi
    (shli (shapeCast S256x256 (broadcastTo S128x2x256 (shapeCast S128x1x256 (shapeCast S128x1x256
        (extui 32 b natLt_8_32) shapeCasts_S128x256_S128x1x256) shapeCasts_S128x1x256_S128x1x256)
        broadcasts_S128x1x256_S128x2x256) shapeCasts_S128x2x256_S256x256)
      (subi (broadcast S256x256 28#32) (muli (broadcast S256x256 4#32)
        (andi (iota .tc S256x256 32 [0] iota_S256x256_d0_w32) (broadcast S256x256 1#32)))))
    (broadcast S256x256 28#32))) bitsLt_bf16_f32

/-- Each half of 128 rows times its row of scales. -/
def wScaled (c : FVec F S256x256 .bf16) (s : FVec F S2x256 .bf16) : FVec F S256x256 .bf16 :=
  concatenate S256x256 0
    [⟨S128x256, mulf (extractStridedSlice S128x256 ![0, 0] c slices_S256x256_o0_0_S128x256)
        (broadcastTo S128x256 (extractStridedSlice S1x256 ![0, 0] s slices_S2x256_o0_0_S1x256) broadcasts_S1x256_S128x256)⟩,
     ⟨S128x256, mulf (extractStridedSlice S128x256 ![128, 0] c slices_S256x256_o128_0_S128x256)
        (broadcastTo S128x256 (extractStridedSlice S1x256 ![1, 0] s slices_S2x256_o1_0_S1x256) broadcasts_S1x256_S128x256)⟩]
    concatenates_S128x256_S128x256_S256x256_d0

/-- Tile `k` of the base weight, for the block's columns `256 j …`. -/
def wTile (w : Vec F S3584x1536 .i8) (s : Vec F S56x1536 .bf16) (k : Fin 28) (j : Fin 6) : FVec F S256x256 .bf16 :=
  wScaled (four256 (View.ld w (boxW k j))) (View.ld s (boxS k j))

/-- The second factor's tile of ranks 0…255 and of ranks 256…319 with zeros under them. -/
def uTile (u2 : Vec F S18x1536 .i32) (u3 : Vec F S4x1536 .i32) (u8 : Vec F S2x1536 .i8) (j : Fin 6) (e : Fin 2) : FVec F S256x256 .bf16 :=
  match e with
  | 0 => two256 (View.ld u2 (boxU2 j))
  | 1 => concatenate S256x256 0
      [⟨S64x256, codesB (View.ld u2 (boxU2' j)) (View.ld u3 (boxU3 j)) (View.ld u8 (boxU8 j))⟩,
       ⟨S192x256, broadcast S192x256 (Scalar.ofBits .bf16 0x0000#16)⟩]
      concatenates_S64x256_S192x256_S256x256_d0

/-! ## The two matrix units' sums -/

open Mxu (pushAcc)

/-- The unit and the register that tile `k` goes to where they alternate. -/
def par (k : Nat) : Fin 2 := ⟨k % 2, Nat.mod_lt _ (by decide)⟩

/-- The first factor times the left operand: tile `k` goes to unit `k % 2`. -/
def shrink (x : Vec F S256x7168 .bf16) (v2 : Vec F S18x7168 .i32) (v3 : Vec F S4x7168 .i32) (v8 : Vec F S2x7168 .i8)
    (vs : Vec F S320x56 .bf16) (st : Mxu F) : (n : Nat) → n ≤ 28 → Mxu F
  | 0, _ => st
  | n + 1, h => pushAcc (par n) 0 true 0 fits_0_320 (shrink x v2 v3 v8 vs st n (by omega))
      (xTile x ⟨n, h⟩) (vTile v2 v3 v8 vs ⟨n, h⟩)

/-- The base weight: tile `k` of the block columns `j` and `j'` on the two units. -/
def base (x : Vec F S256x7168 .bf16) (w : Vec F S3584x1536 .i8) (s : Vec F S56x1536 .bf16) (j j' : Fin 6)
    (A : Nat) (hA : Mxu.Fits A 256) (st : Mxu F) : (n : Nat) → n ≤ 28 → Mxu F
  | 0, _ => st
  | n + 1, h => pushAcc 1 (par n) false A hA
      (pushAcc 0 (par n) false A hA (base x w s j j' A hA st n (by omega)) (wTile w s ⟨n, h⟩ j) (xTile x ⟨n, h⟩))
      (wTile w s ⟨n, h⟩ j') (xTile x ⟨n, h⟩)

/-- The second factor added to both units' sums. -/
def expand (u2 : Vec F S18x1536 .i32) (u3 : Vec F S4x1536 .i32) (u8 : Vec F S2x1536 .i8) (t : Vec F S256x512 .bf16) (j j' : Fin 6)
    (A : Nat) (hA : Mxu.Fits A 256) (st : Mxu F) : Mxu F :=
  pushAcc 1 1 false A hA (pushAcc 0 1 false A hA (pushAcc 1 0 false A hA (pushAcc 0 0 false A hA st
      (uTile u2 u3 u8 j 0) (View.ld t (boxT 0))) (uTile u2 u3 u8 j' 0) (View.ld t (boxT 0)))
      (uTile u2 u3 u8 j 1) (View.ld t (boxT 1))) (uTile u2 u3 u8 j' 1) (View.ld t (boxT 1))

section Output

/-! The operand blocks one grid point's output is computed from. -/

variable (x : Vec F S256x7168 .bf16) (w : Vec F S3584x1536 .i8) (s : Vec F S56x1536 .bf16) (u2 : Vec F S18x1536 .i32)
  (u3 : Vec F S4x1536 .i32) (u8 : Vec F S2x1536 .i8) (t : Vec F S256x512 .bf16)

/-- The two units when a pair of block columns is summed up, and when its two sums are taken out. -/
def summed (j j' : Fin 6) (A : Nat) (hA : Mxu.Fits A 256) (st : Mxu F) : Mxu F :=
  expand u2 u3 u8 t j j' A hA (base x w s j j' A hA st 28 (by decide))

def popped (A : Nat) (hA : Mxu.Fits A 256) (st : Mxu F) : Mxu F := (st.pop 0 A 256 hA).pop 1 A 256 hA

/-- The two units' state after the pairs before pair `p`. -/
def before (st : Mxu F) : Fin 3 → Mxu F
  | 0 => st
  | 1 => popped 80 fits_80_256 (summed x w s u2 u3 u8 t 0 1 80 fits_80_256 st)
  | 2 => popped 144 fits_144_256 (summed x w s u2 u3 u8 t 2 3 144 fits_144_256 (popped 80 fits_80_256 (summed x w s u2 u3 u8 t 0 1 80 fits_80_256 st)))

/-- The tile of the output at block column `j`. -/
def outTile (st : Mxu F) (j : Fin 6) : FVec F S256x256 .bf16 :=
  truncf .bf16 (match j with
    | 0 => (summed x w s u2 u3 u8 t 0 1 80 fits_80_256 (before x w s u2 u3 u8 t st 0)).read 0 80 fits_80_256
    | 1 => ((summed x w s u2 u3 u8 t 0 1 80 fits_80_256 (before x w s u2 u3 u8 t st 0)).pop 0 80 256 fits_80_256).read 1 80 fits_80_256
    | 2 => (summed x w s u2 u3 u8 t 2 3 144 fits_144_256 (before x w s u2 u3 u8 t st 1)).read 0 144 fits_144_256
    | 3 => ((summed x w s u2 u3 u8 t 2 3 144 fits_144_256 (before x w s u2 u3 u8 t st 1)).pop 0 144 256 fits_144_256).read 1 144 fits_144_256
    | 4 => (summed x w s u2 u3 u8 t 4 5 80 fits_80_256 (before x w s u2 u3 u8 t st 2)).read 0 80 fits_80_256
    | 5 => ((summed x w s u2 u3 u8 t 4 5 80 fits_80_256 (before x w s u2 u3 u8 t st 2)).pop 0 80 256 fits_80_256).read 1 80 fits_80_256) bitsLt_bf16_f32

/-- The output block's tiles, last stored first. -/
def outPieces (st : Mxu F) : List (View.Piece (Elt F) S256x1536 .bf16) :=
  [⟨boxO 5, outTile x w s u2 u3 u8 t st 5⟩, ⟨boxO 4, outTile x w s u2 u3 u8 t st 4⟩, ⟨boxO 3, outTile x w s u2 u3 u8 t st 3⟩, ⟨boxO 2, outTile x w s u2 u3 u8 t st 2⟩,
   ⟨boxO 1, outTile x w s u2 u3 u8 t st 1⟩, ⟨boxO 0, outTile x w s u2 u3 u8 t st 0⟩]

end Output

/-- What the first grid point computes once and keeps: the product with the first factor, times the diagonal. -/
def tMain (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : FVec F S256x384 .bf16 :=
  truncf .bf16 (mulf (transpose S256x384 [1, 0] (concatenate S384x256 0
      [⟨S320x256, addf ((shrink x v2 v3 v8 vs Mxu.init 28 (by decide)).read 0 0 fits_0_320)
          (((shrink x v2 v3 v8 vs Mxu.init 28 (by decide)).pop 0 0 320 fits_0_320).read 1 0 fits_0_320)⟩,
       ⟨S64x256, broadcast S64x256 (Scalar.ofBits .f32 0x00000000#32)⟩] concatenates_S320x256_S64x256_S384x256_d0)
      transposes_S384x256_p1_0_S256x384)
    (broadcastTo S256x384 (concatenate S1x384 1
      [⟨S1x320, mulf (shapeCast S1x320 (View.ld sg (Rect.unit (s := S1x320) ![0, 0] S1x320.size inb_S1x320_S1x320_0_0)) shapeCasts_S1x320_S1x320)
          (extf .f32 (shapeCast S1x320 (View.ld us (Rect.unit (s := S1x320) ![0, 0] S1x320.size inb_S1x320_S1x320_0_0)) shapeCasts_S1x320_S1x320) bitsLt_bf16_f32)⟩,
       ⟨S1x64, broadcast S1x64 (Scalar.ofBits .f32 0x00000000#32)⟩] concatenates_S1x320_S1x64_S1x384_d1)
      broadcasts_S1x384_S256x384)) bitsLt_bf16_f32

def tPieces (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : List (View.Piece (Elt F) S256x512 .bf16) :=
  [⟨boxT128, shapeCast S256x128 (broadcast S256x128 (Scalar.ofBits .bf16 0x0000#16)) shapeCasts_S256x128_S256x128⟩,
   ⟨boxT384, shapeCast S256x384 (tMain x v2 v3 v8 vs us sg) shapeCasts_S256x384_S256x384⟩]

/-- The units' state the first point leaves to the output's sums. -/
def stFirst (x : Vec F S256x7168 .bf16) (v2 : Vec F S18x7168 .i32) (v3 : Vec F S4x7168 .i32) (v8 : Vec F S2x7168 .i8)
    (vs : Vec F S320x56 .bf16) : Mxu F :=
  ((shrink x v2 v3 v8 vs Mxu.init 28 (by decide)).pop 0 0 320 fits_0_320).pop 1 0 320 fits_0_320

end Cert.KernelIdeal.Hand

end

end
-- ==== Proof.KI.Held.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim

@[expose] public section

set_option maxRecDepth 16384

/-! # A memref's buffer held by a core, and the body's branch condition -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, -/
abbrev Bf (c : Dev nD) {sp : Space} {S : Shape} {e : EltTy} (M : Memref sig .tc sp S e) : Type := Buf (Elt F) (M.view.loc (c : Thread nD τ))
/-- and its cells held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The condition of the body's one branch, as the program computes it from the grid point. -/
abbrev cond (i : grid0.Coords) : BitVec 1 :=
  Scalar.cmpi .ne (Scalar.extui (Scalar.cmpi .eq (BitVec.ofNat 32 (i 0).val) 0#32)) 0#32

end Cert.KernelIdeal.Hand

end

end
-- ==== Proof.KI.RunLater.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim
public import proofs.«01_k».proof.Proof.KI.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def runLater (c : Dev nD) (i : grid0.Coords) (hc : ¬ cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f14 : Bf (F := F) c arg14) :
    { W : Bf (F := F) c arg13 //
      ∀ (f13 : Bf (F := F) c arg13) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 W ∗ pt c arg14 f14) -∗ Q ⟨⟩))
        ⊢ wp frame (wpE (defs₀ (F := F)) Variants.none c none) E
            (cc0_delta_linear i arg1 harg1 arg2 harg2 arg3 harg3 arg4 harg4 arg5 harg5 arg6 harg6 arg7 harg7 arg8 harg8 arg9 harg9 arg10 harg10 arg11 harg11 arg12 harg12 arg13 harg13 arg14 harg14) Q } := by
  refine ⟨?_, fun f13 E Q => ?run⟩
  case run =>
    iintro ⟨H1, H2, H3, H4, H5, H6, H7, H8, H9, H10, H11, H12, H13, H14, Hk⟩
    sl_exec_parts! (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Hand
-- ==== Proof.KI.RunFirst.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim
public import proofs.«01_k».proof.Proof.KI.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def runFirst (c : Dev nD) (i : grid0.Coords) (hc : cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    { W : Bf (F := F) c arg13 × Bf (F := F) c arg14 //
      ∀ (f13 : Bf (F := F) c arg13) (f14 : Bf (F := F) c arg14) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 W.1 ∗ pt c arg14 W.2) -∗ Q ⟨⟩))
        ⊢ wp frame (wpE (defs₀ (F := F)) Variants.none c none) E
            (cc0_delta_linear i arg1 harg1 arg2 harg2 arg3 harg3 arg4 harg4 arg5 harg5 arg6 harg6 arg7 harg7 arg8 harg8 arg9 harg9 arg10 harg10 arg11 harg11 arg12 harg12 arg13 harg13 arg14 harg14) Q } := by
  refine ⟨⟨?_, ?_⟩, fun f13 f14 E Q => ?run⟩
  case run =>
    iintro ⟨H1, H2, H3, H4, H5, H6, H7, H8, H9, H10, H11, H12, H13, H14, Hk⟩
    sl_exec_parts! (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Hand
-- ==== Proof.KI.Link.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim
public import proofs.«01_k».proof.Proof.KI.Spec
public import proofs.«01_k».proof.Proof.KI.RunLater
public import proofs.«01_k».proof.Proof.KI.RunFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
theorem runLater_val (c : Dev nD) (i : grid0.Coords) (hc : ¬ cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f14 : Bf (F := F) c arg14) :
    (runLater c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14).1
      = arg13.view.writes (Elt F) arg13.view.junk (outPieces
        (arg1.view.read (Elt F) f1) (arg2.view.read (Elt F) f2) (arg3.view.read (Elt F) f3) (arg7.view.read (Elt F) f7) (arg8.view.read (Elt F) f8) (arg9.view.read (Elt F) f9) (arg14.view.read (Elt F) f14) Mxu.init) := by exact rfl

set_option maxHeartbeats 0 in
theorem runFirst_val (c : Dev nD) (i : grid0.Coords) (hc : cond i = 1#1)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    (runFirst c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12).1
      = (arg13.view.writes (Elt F) arg13.view.junk (outPieces
          (arg1.view.read (Elt F) f1) (arg2.view.read (Elt F) f2) (arg3.view.read (Elt F) f3) (arg7.view.read (Elt F) f7) (arg8.view.read (Elt F) f8) (arg9.view.read (Elt F) f9)
          (arg14.view.read (Elt F) (arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))))
          (stFirst (arg1.view.read (Elt F) f1) (arg4.view.read (Elt F) f4) (arg5.view.read (Elt F) f5) (arg6.view.read (Elt F) f6) (arg10.view.read (Elt F) f10))),
        arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))) := by exact rfl

end Cert.KernelIdeal.Hand

end

end
-- ==== Proof.KI.Body.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim
public import proofs.«01_k».proof.Proof.KI.Link
public import proofs.«01_k».proof.Proof.KI.RunLater
public import proofs.«01_k».proof.Proof.KI.RunFirst

@[expose] public section

set_option maxRecDepth 16384

/-! # The kernel body's triples, at the first grid point and at the later ones -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a grid point leaves -/

/-- What the first point leaves in the scratch buffer. -/
def tOf (x : Vec F S256x7168 .bf16) (v2 : Vec F S18x7168 .i32) (v3 : Vec F S4x7168 .i32) (v8 : Vec F S2x7168 .i8)
    (vs : Vec F S320x56 .bf16) (us : Vec F S1x320 .bf16) (sg : Vec F S1x320 .f32) : Vec F S256x512 .bf16 :=
  View.canon (tPieces x v2 v3 v8 vs us sg)

/-- What a point leaves in the output block, from the units' state `st`. -/
def outOf (x : Vec F S256x7168 .bf16) (w : Vec F S3584x1536 .i8) (s : Vec F S56x1536 .bf16) (u2 : Vec F S18x1536 .i32)
    (u3 : Vec F S4x1536 .i32) (u8 : Vec F S2x1536 .i8) (t : Vec F S256x512 .bf16) (st : Mxu F) : Vec F S256x1536 .bf16 :=
  View.canon (outPieces x w s u2 u3 u8 t st)

theorem cover_out (p5 p4 p3 p2 p1 p0 : Vec F S256x256 .bf16) (y : S256x1536.Idx) :
    ∃ pc ∈ ([⟨boxO 5, p5⟩, ⟨boxO 4, p4⟩, ⟨boxO 3, p3⟩, ⟨boxO 2, p2⟩, ⟨boxO 1, p1⟩, ⟨boxO 0, p0⟩] : List (View.Piece (Elt F) S256x1536 .bf16)),
      y ∈ pc.1.set :=
  View.cover_of_tiled [⟨boxO 5, p5⟩, ⟨boxO 4, p4⟩, ⟨boxO 3, p3⟩, ⟨boxO 2, p2⟩, ⟨boxO 1, p1⟩, ⟨boxO 0, p0⟩] S256x256.size (by rfl) y

theorem cover_t (p1 : Vec F S256x128 .bf16) (p0 : Vec F S256x384 .bf16) (y : S256x512.Idx) :
    ∃ pc ∈ ([⟨boxT128, p1⟩, ⟨boxT384, p0⟩] : List (View.Piece (Elt F) S256x512 .bf16)), y ∈ pc.1.set := by
  have h0 : (y 0).val < 256 := (y 0).isLt
  have h1 : (y 1).val < 512 := (y 1).isLt
  by_cases h : 384 ≤ (y 1).val
  · refine ⟨⟨boxT128, p1⟩, List.mem_cons_self, (Rect.mem_set_unit (inb := inb_S256x512_S256x128_0_384)).mpr fun a => ?_⟩
    match a with
    | 0 => exact ⟨Nat.zero_le _, by show (y 0).val < 0 + 256; omega⟩
    | 1 => exact ⟨h, by show (y 1).val < 384 + 128; omega⟩
  · refine ⟨⟨boxT384, p0⟩, List.mem_cons_of_mem _ List.mem_cons_self, (Rect.mem_set_unit (inb := inb_S256x512_S256x384_0_0)).mpr fun a => ?_⟩
    match a with
    | 0 => exact ⟨Nat.zero_le _, by show (y 0).val < 0 + 256; omega⟩
    | 1 => exact ⟨Nat.zero_le _, by show (y 1).val < 0 + 384; omega⟩

theorem read_out {sp : Space} (v : View sig .tc sp S256x1536 .bf16) (x : Vec F S256x7168 .bf16) (w : Vec F S3584x1536 .i8)
    (s : Vec F S56x1536 .bf16) (u2 : Vec F S18x1536 .i32) (u3 : Vec F S4x1536 .i32) (u8 : Vec F S2x1536 .i8)
    (t : Vec F S256x512 .bf16) (st : Mxu F) :
    v.read (Elt F) (v.writes (Elt F) v.junk (outPieces x w s u2 u3 u8 t st)) = outOf x w s u2 u3 u8 t st :=
  View.read_writes_eq_canon _ _ _ (cover_out _ _ _ _ _ _)

theorem read_t {sp : Space} (v : View sig .tc sp S256x512 .bf16) (x : Vec F S256x7168 .bf16) (v2 : Vec F S18x7168 .i32)
    (v3 : Vec F S4x7168 .i32) (v8 : Vec F S2x7168 .i8) (vs : Vec F S320x56 .bf16) (us : Vec F S1x320 .bf16) (sg : Vec F S1x320 .f32) :
    v.read (Elt F) (v.writes (Elt F) v.junk (tPieces x v2 v3 v8 vs us sg)) = tOf x v2 v3 v8 vs us sg :=
  View.read_writes_eq_canon _ _ _ (cover_t _ _)

/-! ## The body's triples -/

/-- The body at a point after the first: the output block at `outOf` of the operands' blocks and the scratch buffer's
    contents, which it keeps. -/
theorem sound_later (c : Dev nD) (i : grid0.Coords) (hc : ¬ cond i = 1#1) (E : Set ℕ)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (x0 : Vec F S256x7168 .bf16) (x1 : Vec F S3584x1536 .i8) (x2 : Vec F S56x1536 .bf16) (x3 : Vec F S18x7168 .i32) (x4 : Vec F S4x7168 .i32) (x5 : Vec F S2x7168 .i8) (x6 : Vec F S18x1536 .i32) (x7 : Vec F S4x1536 .i32) (x8 : Vec F S2x1536 .i8) (x9 : Vec F S320x56 .bf16) (x10 : Vec F S1x320 .bf16) (x11 : Vec F S1x320 .f32) (xt : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf x0 x1 x2 x6 x7 x8 xt Mxu.init) ∗ owns (c : Thread nD τ) arg14 fullShare xt) -∗ K ⟨⟩))
      ⊢ wp frame (wpE (defs₀ (F := F)) Variants.none c none) E (cc0_delta_linear i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf1 hf2 hf3 hf4 hf5 hf6 hf7 hf8 hf9 hf10 hf11 hf12 hf14
  have hv := runLater_val c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14
  generalize runLater c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f14 = R at hv
  obtain ⟨W, hW⟩ := R
  subst hv
  iapply (hW f13 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact read_out ..
  iexists f14; isplitr; · ipureintro; rfl
  iexact H14

/-- The body at the first point: the scratch buffer at `tOf` of the operands' blocks, whatever it held, and the output
    block at `outOf` of that. -/
theorem sound_first (c : Dev nD) (i : grid0.Coords) (hc : cond i = 1#1) (E : Set ℕ)
    (arg1 : Memref sig .tc .vmem S256x7168 .bf16) (harg1 : arg1.IsWhole) (arg2 : Memref sig .tc .vmem S3584x1536 .i8) (harg2 : arg2.IsWhole) (arg3 : Memref sig .tc .vmem S56x1536 .bf16) (harg3 : arg3.IsWhole) (arg4 : Memref sig .tc .vmem S18x7168 .i32) (harg4 : arg4.IsWhole) (arg5 : Memref sig .tc .vmem S4x7168 .i32) (harg5 : arg5.IsWhole) (arg6 : Memref sig .tc .vmem S2x7168 .i8) (harg6 : arg6.IsWhole) (arg7 : Memref sig .tc .vmem S18x1536 .i32) (harg7 : arg7.IsWhole) (arg8 : Memref sig .tc .vmem S4x1536 .i32) (harg8 : arg8.IsWhole) (arg9 : Memref sig .tc .vmem S2x1536 .i8) (harg9 : arg9.IsWhole) (arg10 : Memref sig .tc .vmem S320x56 .bf16) (harg10 : arg10.IsWhole) (arg11 : Memref sig .tc .vmem S1x320 .bf16) (harg11 : arg11.IsWhole) (arg12 : Memref sig .tc .vmem S1x320 .f32) (harg12 : arg12.IsWhole) (arg13 : Memref sig .tc .vmem S256x1536 .bf16) (harg13 : arg13.IsWhole) (arg14 : Memref sig .tc .vmem S256x512 .bf16) (harg14 : arg14.IsWhole)
    (x0 : Vec F S256x7168 .bf16) (x1 : Vec F S3584x1536 .i8) (x2 : Vec F S56x1536 .bf16) (x3 : Vec F S18x7168 .i32) (x4 : Vec F S4x7168 .i32) (x5 : Vec F S2x7168 .i8) (x6 : Vec F S18x1536 .i32) (x7 : Vec F S4x1536 .i32) (x8 : Vec F S2x1536 .i8) (x9 : Vec F S320x56 .bf16) (x10 : Vec F S1x320 .bf16) (x11 : Vec F S1x320 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf x0 x1 x2 x6 x7 x8 (tOf x0 x3 x4 x5 x9 x10 x11) (stFirst x0 x3 x4 x5 x9)) ∗ owns (c : Thread nD τ) arg14 fullShare (tOf x0 x3 x4 x5 x9 x10 x11)) -∗ K ⟨⟩))
      ⊢ wp frame (wpE (defs₀ (F := F)) Variants.none c none) E (cc0_delta_linear i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1 hf2 hf3 hf4 hf5 hf6 hf7 hf8 hf9 hf10 hf11 hf12
  have hT := read_t arg14.view (arg1.view.read (Elt F) f1) (arg4.view.read (Elt F) f4) (arg5.view.read (Elt F) f5) (arg6.view.read (Elt F) f6) (arg10.view.read (Elt F) f10) (arg11.view.read (Elt F) f11) (arg12.view.read (Elt F) f12)
  have hv := runFirst_val c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12
  rw [hT] at hv
  generalize runFirst c i hc arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 = R at hv
  obtain ⟨⟨W13, W14⟩, hW⟩ := R
  obtain ⟨h13, h14⟩ := Prod.mk.inj hv
  dsimp only at hW
  subst h13 h14
  iapply (hW f13 f14 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact read_out ..
  iexists (arg14.view.writes (Elt F) arg14.view.junk (tPieces (arg1.view.read (Elt F) f1) (arg4.view.read (Elt F) f4) (arg5.view.read (Elt F) f5) (arg6.view.read (Elt F) f6) (arg10.view.read (Elt F) f10) (arg11.view.read (Elt F) f11) (arg12.view.read (Elt F) f12))); isplitr
  · ipureintro; exact hT
  iexact H14

end Cert.KernelIdeal.Hand

end

end
-- ==== Proof.KI.Sums.lean ====
module

public import proofs.«01_k».proof.Proof.KI.Spec
public import Idealize.ShloMosaic.Lib.Pointwise

/-! # What the two matrix units hold, as sums

Over the extended reals a step adds its pass to its unit's rows, and a step at one unit leaves the other unit's
rows. -/

@[expose] public section

set_option maxRecDepth 16384

noncomputable section

namespace Cert.KernelIdeal.Hand

open Cert.KernelIdeal Cert.KernelIdeal.Gen
open Idealize.ShloMosaic Idealize.ShloMosaic.TcCoe
open Mxu (pushAcc passOf row STile Fits)

/-- A unit's rows, where a row that holds no sum counts as zero. -/
def held (s : Mxu Ideal) (q : Fin 2) (A : Nat) {M : Nat} (h : Fits A M) : (STile M).Idx → EReal :=
  fun i => if s.live q (row h (i 0)) = true then s.read q A h i else 0

section Steps

variable {φ₁ φ₂ : FTy} (q r : Fin 2) (tr : Bool) (A : Nat) {M : Nat} (h : Fits A M) (s : Mxu Ideal)
  (v : FVec Ideal (STile 256) φ₂) (lhs : FVec Ideal (STile M) φ₁)

theorem held_step (hreg : s.reg q r = none) :
    held (pushAcc q r tr A h s v lhs) q A h = fun i => held s q A h i + passOf tr (v, lhs) i := by
  funext i
  unfold held
  rw [if_pos (Mxu.live_pushAcc_row q r tr A h s v lhs (i 0))]
  unfold pushAcc
  rw [Mxu.read_accLhs, Mxu.live_pushed, Mxu.read_pushed, Mxu.staged_eq, Mxu.reg_pushed_of_none s q r tr v hreg]
  change Mxu.deposit (s.live q (row h (i 0))) (s.read q A h i) (passOf tr (v, lhs) i) = _
  by_cases hl : s.live q (row h (i 0)) = true
  · rw [if_pos hl, hl]; rfl
  · rw [if_neg hl, Bool.not_eq_true _ |>.mp hl, zero_add]; rfl

theorem held_other (q' : Fin 2) (hq : q' ≠ q) (A' : Nat) {M' : Nat} (h' : Fits A' M') :
    held (pushAcc q r tr A h s v lhs) q' A' h' = held s q' A' h' := by
  have hl : ∀ R, (pushAcc q r tr A h s v lhs).live q' R = s.live q' R := fun R => by
    unfold pushAcc
    rw [Mxu.live_accLhs, if_neg (fun e => hq e.1), Mxu.live_pushed]
  have hr : (pushAcc q r tr A h s v lhs).read q' A' h' = s.read q' A' h' := by
    unfold pushAcc
    rw [Mxu.read_accLhs_ne _ _ _ _ _ _ _ _ _ (Or.inl hq), Mxu.read_pushed]
  funext i
  unfold held
  rw [hl, hr]

end Steps

theorem live_read {s : Mxu Ideal} {q : Fin 2} {A M : Nat} {h : Fits A M} (hl : ∀ r, s.live q (row h r) = true) :
    s.read q A h = held s q A h := by
  funext i
  unfold held
  exact (if_pos (hl (i 0))).symm

/-- The registers are empty and only the rows of an address hold sums. -/
def Inside (A M : Nat) (s : Mxu Ideal) : Prop :=
  (∀ q r, s.reg q r = none) ∧ ∀ q R, s.live q R = true → 4 * A ≤ R.val ∧ R.val < 4 * A + M

/-- The registers are empty and no row holds a sum. -/
def Clean (s : Mxu Ideal) : Prop := (∀ q r, s.reg q r = none) ∧ ∀ q R, s.live q R = false

theorem Clean.inside {s : Mxu Ideal} (hs : Clean s) (A M : Nat) : Inside A M s :=
  ⟨hs.1, fun q R e => by rw [hs.2] at e; exact absurd e (by decide)⟩

theorem clean_init : Clean (Mxu.init : Mxu Ideal) := ⟨fun _ _ => Mxu.reg_init _ _, fun _ _ => rfl⟩

theorem held_clean {s : Mxu Ideal} (hs : Clean s) (q : Fin 2) (A : Nat) {M : Nat} (h : Fits A M) : held s q A h = fun _ => 0 := by
  funext i
  unfold held
  rw [hs.2, if_neg (by decide)]

theorem Inside.step {φ₁ φ₂ : FTy} {A M : Nat} {s : Mxu Ideal} (hs : Inside A M s) (q r : Fin 2) (tr : Bool) (h : Fits A M)
    (v : FVec Ideal (STile 256) φ₂) (lhs : FVec Ideal (STile M) φ₁) : Inside A M (pushAcc q r tr A h s v lhs) := by
  refine ⟨fun q' r' => ?_, fun q' R e => ?_⟩
  · by_cases e : q' = q ∧ r' = r
    · rw [e.1, e.2]; exact Mxu.reg_pushAcc q r tr A h s v lhs
    · unfold pushAcc
      rw [Mxu.reg_accLhs_ne _ _ _ _ _ _ _ _ e, Mxu.reg_pushed_ne _ _ _ _ _ _ _ e]
      exact hs.1 q' r'
  · unfold pushAcc at e
    rw [Mxu.live_accLhs, Mxu.live_pushed] at e
    by_cases c : q' = q ∧ 4 * A ≤ R.val ∧ R.val < 4 * A + M
    · exact c.2
    · rw [if_neg c] at e; exact hs.2 q' R e

/-- Taken out of both units, the rows hold no sum. -/
theorem Inside.clean {A M : Nat} {s : Mxu Ideal} (hs : Inside A M s) (h : Fits A M) : Clean ((s.pop 0 A M h).pop 1 A M h) := by
  refine ⟨fun q r => ?_, fun q R => ?_⟩
  · rw [Mxu.reg_pop, Mxu.reg_pop]; exact hs.1 q r
  · rw [Mxu.live_pop, Mxu.live_pop]
    by_cases c : 4 * A ≤ R.val ∧ R.val < 4 * A + M
    · by_cases c0 : q = 0
      · subst c0; simp [c]
      · have : q = 1 := by omega
        subst this; simp [c]
    · have : s.live q R = false := by
        by_contra e
        exact c (hs.2 q R (by simpa using e))
      simp [c, this]

/-- The rows of the other unit after one unit's rows are taken out. -/
theorem read_pop_other (s : Mxu Ideal) (A : Nat) {M : Nat} (h : Fits A M) : (s.pop 0 A M h).read 1 A h = s.read 1 A h :=
  Mxu.read_pop_ne _ _ _ _ _ _ _ (Or.inl (by decide))

/-! ## One pass, element by element -/

theorem pass_apply (v l : FVec Ideal S256x256 .bf16) (m n : Fin 256) :
    passOf false (v, l) (ix2 m n) = ∑ k : Fin 256, l (ix2 m k) * v (ix2 k n) := by
  have e : passOf false (v, l) (ix2 m n) = Ideal.matmul (DotDims.plain 256 256 256) l v (fun _ => 0) (ix2 m n) :=
    (zero_add _).symm
  rw [e]
  refine (Ideal.matmul_apply₁ _ rfl rfl _ _ _ _).trans ((zero_add _).trans (Finset.sum_congr rfl fun k _ => ?_))
  congr 2 <;> (funext a; fin_cases a <;> rfl)

theorem passT_apply (v : FVec Ideal S256x256 .bf16) (l : FVec Ideal S320x256 .bf16) (m : Fin 320) (n : Fin 256) :
    passOf true (v, l) (ix2 m n) = ∑ k : Fin 256, l (ix2 m k) * v (ix2 n k) := by
  have e : passOf true (v, l) (ix2 m n) = Ideal.matmul (DotDims.transposedRhs 320 256 256) l v (fun _ => 0) (ix2 m n) :=
    (zero_add _).symm
  rw [e]
  refine (Ideal.matmul_apply₁ _ rfl rfl _ _ _ _).trans ((zero_add _).trans (Finset.sum_congr rfl fun k _ => ?_))
  congr 2 <;> (funext a; fin_cases a <;> rfl)

/-! ## The base weight and the second factor -/

section Output

variable (x : Vec Ideal S256x7168 .bf16) (w : Vec Ideal S3584x1536 .i8) (s : Vec Ideal S56x1536 .bf16)
  (u2 : Vec Ideal S18x1536 .i32) (u3 : Vec Ideal S4x1536 .i32) (u8 : Vec Ideal S2x1536 .i8) (t : Vec Ideal S256x512 .bf16)
  (j j' : Fin 6) (A : Nat) (hA : Fits A 256) {st : Mxu Ideal}

theorem inside_base (hst : Inside A 256 st) : ∀ n h, Inside A 256 (base x w s j j' A hA st n h)
  | 0, _ => hst
  | n + 1, h => ((inside_base hst n (by omega)).step _ _ _ hA _ _).step _ _ _ hA _ _

theorem held_base0 (hst : Inside A 256 st) : ∀ n h, held (base x w s j j' A hA st n h) 0 A hA
    = fun i => held st 0 A hA i + ∑ k : Fin n, passOf false (wTile w s ⟨k.val, by omega⟩ j, xTile x ⟨k.val, by omega⟩) i
  | 0, _ => by funext i; simp [base]
  | n + 1, h => by
    have hi := inside_base x w s j j' A hA hst n (by omega)
    funext i
    rw [base, held_other _ _ _ _ _ _ _ _ _ (by decide), held_step _ _ _ _ _ _ _ _ (hi.1 _ _), held_base0 hst n (by omega),
      Fin.sum_univ_castSucc, ← add_assoc]
    rfl

theorem held_base1 (hst : Inside A 256 st) : ∀ n h, held (base x w s j j' A hA st n h) 1 A hA
    = fun i => held st 1 A hA i + ∑ k : Fin n, passOf false (wTile w s ⟨k.val, by omega⟩ j', xTile x ⟨k.val, by omega⟩) i
  | 0, _ => by funext i; simp [base]
  | n + 1, h => by
    have hi := inside_base x w s j j' A hA hst n (by omega)
    funext i
    rw [base, held_step _ _ _ _ _ _ _ _ ((hi.step _ _ _ hA _ _).1 _ _), held_other _ _ _ _ _ _ _ _ _ (by decide),
      held_base1 hst n (by omega), Fin.sum_univ_castSucc, ← add_assoc]
    rfl

theorem inside_summed (hst : Inside A 256 st) : Inside A 256 (summed x w s u2 u3 u8 t j j' A hA st) :=
  ((((inside_base x w s j j' A hA hst 28 (by decide)).step _ _ _ hA _ _).step _ _ _ hA _ _).step _ _ _ hA _ _).step _ _ _ hA _ _

theorem clean_popped (hst : Clean st) : Clean (popped A hA (summed x w s u2 u3 u8 t j j' A hA st)) :=
  (inside_summed x w s u2 u3 u8 t j j' A hA (hst.inside A 256)).clean hA

/-- One element of a block column's sum. -/
def outSum (j : Fin 6) (m n : Fin 256) : EReal :=
  (∑ k : Fin 28, ∑ i : Fin 256, xTile x k (ix2 m i) * wTile w s k j (ix2 i n))
    + (∑ i : Fin 256, View.ld t (boxT 0) (ix2 m i) * uTile (F := Ideal) u2 u3 u8 j 0 (ix2 i n))
    + ∑ i : Fin 256, View.ld t (boxT 1) (ix2 m i) * uTile (F := Ideal) u2 u3 u8 j 1 (ix2 i n)

theorem read_summed0 (hst : Clean st) (m n : Fin 256) :
    (summed x w s u2 u3 u8 t j j' A hA st).read 0 A hA (ix2 m n) = outSum x w s u2 u3 u8 t j m n := by
  have hi := hst.inside A 256
  have hb := inside_base x w s j j' A hA hi 28 (by decide)
  unfold summed expand
  rw [live_read (q := 0) (fun r => by
    unfold pushAcc
    rw [Mxu.live_accLhs, if_neg (by simp), Mxu.live_pushed]
    exact Mxu.live_accLhs_row _ _ _ _ _ _ _)]
  rw [held_other _ _ _ _ _ _ _ _ _ (by decide),
    held_step _ _ _ _ _ _ _ _ (((hb.step _ _ _ hA _ _).step _ _ _ hA _ _).1 _ _),
    held_other _ _ _ _ _ _ _ _ _ (by decide), held_step _ _ _ _ _ _ _ _ (hb.1 _ _), held_base0 x w s j j' A hA hi,
    held_clean hst]
  simp only [zero_add]
  unfold outSum
  rw [← pass_apply, ← pass_apply]
  simp only [← pass_apply]

theorem read_summed1 (hst : Clean st) (m n : Fin 256) :
    (summed x w s u2 u3 u8 t j j' A hA st).read 1 A hA (ix2 m n) = outSum x w s u2 u3 u8 t j' m n := by
  have hi := hst.inside A 256
  have hb := inside_base x w s j j' A hA hi 28 (by decide)
  unfold summed expand
  rw [live_read (q := 1) (fun r => Mxu.live_pushAcc_row _ _ _ _ _ _ _ _ _)]
  rw [held_step _ _ _ _ _ _ _ _ ((((hb.step _ _ _ hA _ _).step _ _ _ hA _ _).step _ _ _ hA _ _).1 _ _),
    held_other _ _ _ _ _ _ _ _ _ (by decide), held_step _ _ _ _ _ _ _ _ ((hb.step _ _ _ hA _ _).1 _ _),
    held_other _ _ _ _ _ _ _ _ _ (by decide), held_base1 x w s j j' A hA hi, held_clean hst]
  simp only [zero_add]
  unfold outSum
  rw [← pass_apply, ← pass_apply]
  simp only [← pass_apply]

theorem clean_before (hst : Clean st) (p : Fin 3) : Clean (before x w s u2 u3 u8 t st p) := by
  fin_cases p
  · exact hst
  · exact clean_popped x w s u2 u3 u8 t _ _ _ _ hst
  · exact clean_popped x w s u2 u3 u8 t _ _ _ _ (clean_popped x w s u2 u3 u8 t _ _ _ _ hst)

/-- A tile of the output, element by element. -/
theorem outTile_apply (hst : Clean st) (m n : Fin 256) :
    outTile x w s u2 u3 u8 t st j (ix2 m n) = outSum x w s u2 u3 u8 t j m n := by
  have c := clean_before x w s u2 u3 u8 t hst
  fin_cases j
  · exact read_summed0 x w s u2 u3 u8 t 0 1 80 fits_80_256 (c 0) m n
  · exact (congrFun (read_pop_other _ 80 fits_80_256) (ix2 m n)).trans (read_summed1 x w s u2 u3 u8 t 0 1 80 fits_80_256 (c 0) m n)
  · exact read_summed0 x w s u2 u3 u8 t 2 3 144 fits_144_256 (c 1) m n
  · exact (congrFun (read_pop_other _ 144 fits_144_256) (ix2 m n)).trans (read_summed1 x w s u2 u3 u8 t 2 3 144 fits_144_256 (c 1) m n)
  · exact read_summed0 x w s u2 u3 u8 t 4 5 80 fits_80_256 (c 2) m n
  · exact (congrFun (read_pop_other _ 80 fits_80_256) (ix2 m n)).trans (read_summed1 x w s u2 u3 u8 t 4 5 80 fits_80_256 (c 2) m n)

end Output

/-! ## The first factor -/

section Shrink

variable (x : Vec Ideal S256x7168 .bf16) (v2 : Vec Ideal S18x7168 .i32) (v3 : Vec Ideal S4x7168 .i32)
  (v8 : Vec Ideal S2x7168 .i8) (vs : Vec Ideal S320x56 .bf16)

theorem inside_shrink : ∀ n h, Inside 0 320 (shrink x v2 v3 v8 vs Mxu.init n h)
  | 0, _ => clean_init.inside 0 320
  | n + 1, h => (inside_shrink n (by omega)).step _ _ _ _ _ _

theorem clean_stFirst : Clean (stFirst x v2 v3 v8 vs) := (inside_shrink x v2 v3 v8 vs 28 (by decide)).clean fits_0_320

theorem par_cases (n : Nat) : par n = 0 ∨ par n = 1 := by
  unfold par
  rcases Nat.mod_two_eq_zero_or_one n with h | h
  · left; exact Fin.ext h
  · right; exact Fin.ext h

/-- The two units' rows together: every tile's pass. -/
theorem held_shrink : ∀ n h, (fun i => held (shrink x v2 v3 v8 vs Mxu.init n h) 0 0 fits_0_320 i
      + held (shrink x v2 v3 v8 vs Mxu.init n h) 1 0 fits_0_320 i)
    = fun i => ∑ k : Fin n, passOf true (xTile x ⟨k.val, by omega⟩, vTile v2 v3 v8 vs ⟨k.val, by omega⟩) i
  | 0, _ => by
    rw [shrink, held_clean clean_init, held_clean clean_init]
    funext i; simp
  | n + 1, h => by
    have hi := inside_shrink x v2 v3 v8 vs n (by omega)
    have ih := fun i => congrFun (held_shrink n (by omega)) i
    funext i
    rw [Fin.sum_univ_castSucc]
    rw [shrink]
    rcases par_cases n with e | e <;> rw [e]
    · rw [held_step _ _ _ _ _ _ _ _ (hi.1 _ _), held_other _ _ _ _ _ _ _ _ _ (by decide), add_right_comm]
      exact congrArg (· + _) (ih i)
    · rw [held_step _ _ _ _ _ _ _ _ (hi.1 _ _), held_other _ _ _ _ _ _ _ _ _ (by decide), ← add_assoc]
      exact congrArg (· + _) (ih i)

/-- What the two units' rows hold together at the end, element by element. -/
theorem shrink_apply (p : Fin 320) (m : Fin 256) :
    (shrink x v2 v3 v8 vs Mxu.init 28 (by decide)).read 0 0 fits_0_320 (ix2 p m)
      + ((shrink x v2 v3 v8 vs Mxu.init 28 (by decide)).pop 0 0 320 fits_0_320).read 1 0 fits_0_320 (ix2 p m)
    = ∑ k : Fin 28, ∑ i : Fin 256, vTile v2 v3 v8 vs k (ix2 p i) * xTile x k (ix2 m i) := by
  have l1 : ∀ r, (shrink x v2 v3 v8 vs Mxu.init 28 (by decide)).live 1 (row fits_0_320 r) = true := fun r =>
    Mxu.live_pushAcc_row _ _ _ _ _ _ _ _ _
  have l0 : ∀ r, (shrink x v2 v3 v8 vs Mxu.init 28 (by decide)).live 0 (row fits_0_320 r) = true := fun r => by
    rw [shrink, pushAcc, Mxu.live_accLhs, if_neg (by simp [par]), Mxu.live_pushed]
    exact Mxu.live_pushAcc_row _ _ _ _ _ _ _ _ _
  have h := congrFun (held_shrink x v2 v3 v8 vs 28 (by decide)) (ix2 p m)
  rw [read_pop_other, live_read l0, live_read l1]
  refine h.trans (Finset.sum_congr rfl fun k _ => ?_)
  exact passT_apply _ _ _ _

end Shrink

end Cert.KernelIdeal.Hand

end

end
-- ==== Proof.Fields.lean ====
module

public import Idealize.ShloMosaic.Lib.Pointwise

/-! # A packed field's value, in the two ways the programs take it out of its word

A word holds signed fields of `b` bits. One program shifts the field to the top of the word and back, with its sign;
the other masks it and subtracts `2 ^ b` from a code whose top bit is set. -/

@[expose] public section

noncomputable section

namespace Cert.Fields

open Idealize.ShloMosaic

/-- The value of the signed field of `b` bits that begins at bit `s`. -/
def fld (b s : Nat) {n : Nat} (w : BitVec n) : EReal := (((w.extractLsb' s b).toInt : ℝ) : EReal)

/-- A whole word's signed value. -/
def int {n : Nat} (w : BitVec n) : EReal := ((w.toInt : ℝ) : EReal)

/-- Shifted up until its sign is the word's sign, and down again, a field is its sign-extended self. -/
theorem shifts_eq (b s : Nat) (hb : 0 < b) (h : s + b ≤ 32) (w : BitVec 32) :
    IntOp.shrsi .vector (IntOp.shli .vector w (BitVec.ofNat 32 (32 - b - s))) (BitVec.ofNat 32 (32 - b))
      = (w.extractLsb' s b).signExtend 32 := by
  have h1 : (BitVec.ofNat 32 (32 - b - s)).toNat = 32 - b - s := by rw [BitVec.toNat_ofNat]; omega
  have h2 : (BitVec.ofNat 32 (32 - b)).toNat = 32 - b := by rw [BitVec.toNat_ofNat]; omega
  unfold IntOp.shrsi IntOp.shli
  rw [if_pos (by omega), if_pos (by omega)]
  rw [BitVec.shiftLeft_eq', BitVec.sshiftRight_eq', h1, h2]
  ext i hi
  rw [BitVec.getElem_sshiftRight, BitVec.getElem_signExtend, BitVec.msb_eq_getLsbD_last, BitVec.msb_eq_getLsbD_last]
  by_cases hib : i < b
  · rw [dif_pos hib, dif_pos (by omega), BitVec.getElem_shiftLeft, BitVec.getElem_extractLsb']
    rw [show decide (32 - b + i < 32 - b - s) = false by rw [decide_eq_false_iff_not]; omega]
    rw [← BitVec.getLsbD_eq_getElem, show 32 - b + i - (32 - b - s) = s + i by omega]
    simp
  · rw [dif_neg hib, dif_neg (by omega), BitVec.getLsbD_shiftLeft, BitVec.getLsbD_extractLsb']
    rw [show 32 - 1 - (32 - b - s) = s + (b - 1) by omega]
    simp only [show (32 - 1 < 32) = True by decide, show (b - 1 < b) = True by simp [hb], decide_true, Bool.true_and]
    rw [show decide (32 - 1 < 32 - b - s) = false by rw [decide_eq_false_iff_not]; omega]
    simp

/-- The first program's field. -/
theorem kfld (b s : Nat) (hb : 0 < b) (h : s + b ≤ 32) (w : BitVec 32) {φ : FTy} :
    FloatOps.sitofp (F := Ideal) φ (IntOp.shrsi .vector (IntOp.shli .vector w (BitVec.ofNat 32 (32 - b - s))) (BitVec.ofNat 32 (32 - b)))
      = fld b s w := by
  rw [shifts_eq b s hb h w]
  change (((BitVec.signExtend 32 _).toInt : ℝ) : EReal) = _
  rw [BitVec.toInt_signExtend_of_le (by omega)]
  rfl

/-- A field of a word is the field at the bottom of the word shifted down to it. -/
theorem masked_eq (b s : Nat) (h : s + b ≤ 32) (u : ArithUnit) (w : BitVec 32) :
    IntOp.andi (IntOp.shrsi u w (BitVec.ofNat 32 s)) (BitVec.ofNat 32 (2 ^ b - 1)) = (w.extractLsb' s b).setWidth 32 := by
  by_cases hb : b = 0
  · subst hb
    apply BitVec.eq_of_toNat_eq
    simp [IntOp.andi]
  have h1 : (BitVec.ofNat 32 s).toNat = s := by rw [BitVec.toNat_ofNat]; omega
  unfold IntOp.andi IntOp.shrsi
  rw [if_pos (by omega), BitVec.sshiftRight_eq', h1]
  ext i hi
  rw [BitVec.getElem_and, BitVec.getElem_sshiftRight, BitVec.getElem_setWidth, BitVec.getLsbD_extractLsb']
  rw [← BitVec.getLsbD_eq_getElem (x := BitVec.ofNat 32 (2 ^ b - 1)), BitVec.getLsbD_ofNat, Nat.testBit_two_pow_sub_one]
  by_cases hib : i < b
  · rw [dif_pos (by omega)]; simp [hib, hi, BitVec.getLsbD_eq_getElem (show s + i < 32 by omega)]
  · simp [hib]

/-- The code whose top bit is set made negative: every code of `b` bits. -/
theorem signed2 : ∀ e : BitVec 2, (Scalar.select (IntOp.cmpi .sge (e.setWidth 32) 2#32) (IntOp.subi (e.setWidth 32) 4#32) (e.setWidth 32)).toInt = e.toInt := by decide
theorem signed3 : ∀ e : BitVec 3, (Scalar.select (IntOp.cmpi .sge (e.setWidth 32) 4#32) (IntOp.subi (e.setWidth 32) 8#32) (e.setWidth 32)).toInt = e.toInt := by decide
theorem signed4 : ∀ e : BitVec 4, (Scalar.select (IntOp.cmpi .sge (e.setWidth 32) 8#32) (IntOp.subi (e.setWidth 32) 16#32) (e.setWidth 32)).toInt = e.toInt := by decide

theorem rfld2 (s : Nat) (h : s + 2 ≤ 32) (u : ArithUnit) (w : BitVec 32) (c : BitVec 32)
    (hc : c = IntOp.andi (IntOp.shrsi u w (BitVec.ofNat 32 s)) 3#32) {φ : FTy} :
    FloatOps.sitofp (F := Ideal) φ (Scalar.select (IntOp.cmpi .sge c 2#32) (IntOp.subi c 4#32) c) = fld 2 s w := by
  rw [hc, show (3#32) = BitVec.ofNat 32 (2 ^ 2 - 1) from rfl, masked_eq 2 s h u w]
  change ((BitVec.toInt _ : ℝ) : EReal) = _
  rw [signed2]; rfl

theorem rfld3 (s : Nat) (h : s + 3 ≤ 32) (u : ArithUnit) (w : BitVec 32) (c : BitVec 32)
    (hc : c = IntOp.andi (IntOp.shrsi u w (BitVec.ofNat 32 s)) 7#32) {φ : FTy} :
    FloatOps.sitofp (F := Ideal) φ (Scalar.select (IntOp.cmpi .sge c 4#32) (IntOp.subi c 8#32) c) = fld 3 s w := by
  rw [hc, show (7#32) = BitVec.ofNat 32 (2 ^ 3 - 1) from rfl, masked_eq 3 s h u w]
  change ((BitVec.toInt _ : ℝ) : EReal) = _
  rw [signed3]; rfl

/-- A byte's two halves, as words. -/
theorem low_half : ∀ w : BitVec 8, IntOp.andi (w.setWidth 32) 15#32 = (w.extractLsb' 0 4).setWidth 32 := by decide +kernel
theorem high_half : ∀ w : BitVec 8, IntOp.shrsi .scalar (w.setWidth 32) 4#32 = (w.extractLsb' 4 4).setWidth 32 := by decide +kernel

theorem rfld4 (w : BitVec 8) (s : Nat) (c : BitVec 32) (hc : c = (w.extractLsb' s 4).setWidth 32) {φ : FTy} :
    FloatOps.sitofp (F := Ideal) φ (Scalar.select (IntOp.cmpi .sge c 8#32) (IntOp.subi c 16#32) c) = fld 4 s w := by
  rw [hc]
  change ((BitVec.toInt _ : ℝ) : EReal) = _
  rw [signed4]; rfl

/-- A byte's field is its field as a word. -/
theorem fld_setWidth (s : Nat) (h : s + 4 ≤ 8) (w : BitVec 8) : fld 4 s (w.setWidth 32) = fld 4 s w := by
  unfold fld
  congr 3

end Cert.Fields

end

end
-- ==== Proof.KI.Tiles.lean ====
module

public import proofs.«01_k».proof.Proof.KI.Spec
public import proofs.«01_k».proof.Proof.Fields
public import Idealize.ShloMosaic.Lib.Pointwise

/-! # The tiles, element by element -/

@[expose] public section

set_option maxRecDepth 16384

noncomputable section

namespace Cert.KernelIdeal.Hand

open Cert.KernelIdeal Cert.KernelIdeal.Gen
open Idealize.ShloMosaic Idealize.ShloMosaic.TcCoe
open Cert.Fields

theorem amount2 : ∀ r : Fin 256, IntOp.subi (30#32) (IntOp.muli (2#32) (IntOp.andi (BitVec.ofNat 32 r.val) 15#32))
    = BitVec.ofNat 32 (32 - 2 - 2 * (r.val % 16)) := by decide
theorem amount4 : ∀ r : Fin 256, IntOp.subi (28#32) (IntOp.muli (4#32) (IntOp.andi (BitVec.ofNat 32 r.val) 1#32))
    = BitVec.ofNat 32 (32 - 4 - 4 * (r.val % 2)) := by decide

/-- Row `r` of the decoded 2-bit codes: field `r % 16` of word `r / 16`. -/
theorem two256_apply (w : IVec S16x256 32) (r l : Fin 256) :
    two256 (F := Ideal) w (ix2 r l) = fld 2 (2 * (r.val % 16)) (w (ix2 ⟨r.val / 16, by omega⟩ l)) := by
  pointwise [two256]
  rw [amount2]
  exact kfld 2 _ (by decide) (by omega) _

theorem two32_apply (w : IVec S2x256 32) (r : Fin 32) (l : Fin 256) :
    two32 (F := Ideal) w (ix2 r l) = fld 2 (2 * (r.val % 16)) (w (ix2 ⟨r.val / 16, by omega⟩ l)) := by
  pointwise [two32]
  rw [amount2 ⟨r.val, by omega⟩]
  exact kfld 2 _ (by decide) (by omega) _

theorem four256_apply (w : IVec S128x256 8) (r l : Fin 256) :
    four256 (F := Ideal) w (ix2 r l) = fld 4 (4 * (r.val % 2)) (w (ix2 ⟨r.val / 2, by omega⟩ l)) := by
  pointwise [four256]
  rw [amount4]
  exact (kfld 4 _ (by decide) (by omega) _).trans (fld_setWidth _ (by omega) _)

theorem three_field (s : Nat) (h : s + 3 ≤ 32) (w : BitVec 32) {φ : FTy} :
    FloatOps.sitofp (F := Ideal) φ (IntOp.shrsi .vector (IntOp.shli .vector w (BitVec.ofNat 32 (29 - s))) 29#32) = fld 3 s w :=
  kfld 3 s (by decide) h w

theorem word8_apply (a : Fin 4) (w : IVec S4x256 32) (h : S4x256.Slices ![a.val, 0] S1x256) (r : Fin 8) (l : Fin 256) :
    word8 a w h (ix2 r l) = w (ix2 a l) := by
  pointwise [word8]

/-- Eight rows of 3-bit codes of one word, and eight rows that go on in the next word. -/
theorem first8_apply (w : IVec S4x256 32) (r : Fin 8) (l : Fin 256) :
    three8 (F := Ideal) (word8 0 w slices_S4x256_o0_0_S1x256) (subi (rows8 0#32) (broadcast S8x256 0#32)) (ix2 r l)
      = fld 3 (3 * r.val) (w (ix2 0 l)) := by
  have ha : ∀ r : Fin 8, IntOp.subi (29#32) (IntOp.muli (3#32) (IntOp.subi (IntOp.addi (0#32) (BitVec.ofNat 32 r.val)) 0#32))
      = BitVec.ofNat 32 (29 - 3 * r.val) := by decide
  pointwise [three8, rows8, word8_apply]
  rw [ha]
  exact three_field _ (by omega) _

theorem group8_apply (a a' : Fin 4) (b c c' : Nat) (w : IVec S4x256 32) (h : S4x256.Slices ![a.val, 0] S1x256)
    (h' : S4x256.Slices ![a'.val, 0] S1x256) (r : Fin 8) (l : Fin 256) (hc : c ≤ b) (hc' : c' ≤ c + 10) (hb : b + 8 ≤ c' + 10)
    (hs : ∀ r : Fin 8, IntOp.cmpi .sge (IntOp.addi (BitVec.ofNat 32 b) (BitVec.ofNat 32 r.val)) (BitVec.ofNat 32 c')
      = BitVec.ofBool (decide (c' ≤ b + r.val)))
    (hhi : ∀ r : Fin 8, c' ≤ b + r.val → IntOp.subi (29#32) (IntOp.muli (3#32) (IntOp.subi (IntOp.addi (BitVec.ofNat 32 b)
      (BitVec.ofNat 32 r.val)) (BitVec.ofNat 32 c'))) = BitVec.ofNat 32 (29 - 3 * (b + r.val - c')))
    (hlo : ∀ r : Fin 8, ¬ c' ≤ b + r.val → IntOp.subi (29#32) (IntOp.muli (3#32) (IntOp.subi (IntOp.addi (BitVec.ofNat 32 b)
      (BitVec.ofNat 32 r.val)) (BitVec.ofNat 32 c))) = BitVec.ofNat 32 (29 - 3 * (b + r.val - c))) :
    group8 (F := Ideal) a a' (BitVec.ofNat 32 b) (BitVec.ofNat 32 c) (BitVec.ofNat 32 c') w h h' (ix2 r l)
      = if c' ≤ b + r.val then fld 3 (3 * (b + r.val - c')) (w (ix2 a' l)) else fld 3 (3 * (b + r.val - c)) (w (ix2 a l)) := by
  pointwise [group8, three8, rows8, word8_apply]
  rw [hs]
  by_cases hr : c' ≤ b + r.val
  · simp only [hr, decide_true, if_true, BitVec.ofBool_true, Scalar.select]
    rw [hhi r hr]
    exact three_field _ (by omega) _
  · simp only [hr, decide_false, if_false, BitVec.ofBool_false, Scalar.select]
    rw [if_neg (by decide), if_neg (by decide), hlo r hr]
    exact three_field _ (by omega) _

theorem mid8_apply (w : IVec S4x256 32) (r : Fin 8) (l : Fin 256) :
    group8 (F := Ideal) 0 1 8#32 0#32 10#32 w slices_S4x256_o0_0_S1x256 slices_S4x256_o1_0_S1x256 (ix2 r l)
      = if 10 ≤ 8 + r.val then fld 3 (3 * (8 + r.val - 10)) (w (ix2 1 l)) else fld 3 (3 * (8 + r.val - 0)) (w (ix2 0 l)) :=
  group8_apply 0 1 8 0 10 w _ _ r l (by decide) (by decide) (by decide) (by decide) (by decide) (by decide)

theorem mid16_apply (w : IVec S4x256 32) (r : Fin 8) (l : Fin 256) :
    group8 (F := Ideal) 1 2 16#32 10#32 20#32 w slices_S4x256_o1_0_S1x256 slices_S4x256_o2_0_S1x256 (ix2 r l)
      = if 20 ≤ 16 + r.val then fld 3 (3 * (16 + r.val - 20)) (w (ix2 2 l)) else fld 3 (3 * (16 + r.val - 10)) (w (ix2 1 l)) :=
  group8_apply 1 2 16 10 20 w _ _ r l (by decide) (by decide) (by decide) (by decide) (by decide) (by decide)

theorem mid24_apply (w : IVec S4x256 32) (r : Fin 8) (l : Fin 256) :
    group8 (F := Ideal) 2 3 24#32 20#32 30#32 w slices_S4x256_o2_0_S1x256 slices_S4x256_o3_0_S1x256 (ix2 r l)
      = if 30 ≤ 24 + r.val then fld 3 (3 * (24 + r.val - 30)) (w (ix2 3 l)) else fld 3 (3 * (24 + r.val - 20)) (w (ix2 2 l)) :=
  group8_apply 2 3 24 20 30 w _ _ r l (by decide) (by decide) (by decide) (by decide) (by decide) (by decide)

/-- Field `f` of word `a` of a row's four, where the row's number is `10 a + f`. -/
theorem field_eq (w : IVec S4x256 32) (r : Fin 32) (l : Fin 256) (a : Fin 4) (f : Nat) (hf : f < 10) (h : r.val = 10 * a.val + f) :
    fld 3 (3 * f) (w (ix2 a l)) = fld 3 (3 * (r.val % 10)) (w (ix2 ⟨r.val / 10, by omega⟩ l)) := by
  have e1 : r.val % 10 = f := by omega
  have e2 : (⟨r.val / 10, by omega⟩ : Fin 4) = a := Fin.ext (by simp; omega)
  rw [e1, e2]

/-- Row `r` of the decoded 3-bit codes: field `r % 10` of word `r / 10`. -/
theorem three32_apply (w : IVec S4x256 32) (r : Fin 32) (l : Fin 256) :
    three32 (F := Ideal) w (ix2 r l) = fld 3 (3 * (r.val % 10)) (w (ix2 ⟨r.val / 10, by omega⟩ l)) := by
  pointwise [three32, first8_apply, mid8_apply, mid16_apply, mid24_apply]
  by_cases h0 : r.val < 8
  · rw [dif_pos h0]
    exact field_eq w r l 0 _ (by omega) (by simp)
  rw [dif_neg h0]
  by_cases h1 : r.val - 8 < 8
  · rw [dif_pos h1]
    by_cases c : 10 ≤ 8 + (r.val - 8)
    · rw [if_pos c]; exact field_eq w r l 1 _ (by omega) (by simp; omega)
    · rw [if_neg c]; exact field_eq w r l 0 _ (by omega) (by simp; omega)
  rw [dif_neg h1]
  by_cases h2 : r.val - 8 - 8 < 8
  · rw [dif_pos h2]
    by_cases c : 20 ≤ 16 + (r.val - 8 - 8)
    · rw [if_pos c]; exact field_eq w r l 2 _ (by omega) (by simp; omega)
    · rw [if_neg c]; exact field_eq w r l 1 _ (by omega) (by simp; omega)
  rw [dif_neg h2]
  by_cases c : 30 ≤ 24 + (r.val - 8 - 8 - 8)
  · rw [if_pos c]; exact field_eq w r l 3 _ (by omega) (by simp; omega)
  · rw [if_neg c]; exact field_eq w r l 2 _ (by omega) (by simp; omega)

theorem byte_ext {φ : FTy} (e : BitVec 8) : FloatOps.sitofp (F := Ideal) φ (BitVec.signExtend 32 e) = int e := by
  change (((BitVec.signExtend 32 e).toInt : ℝ) : EReal) = _
  rw [BitVec.toInt_signExtend_of_le (by omega)]
  rfl

theorem slt30 : ∀ r : Fin 32, IntOp.cmpi .slt (BitVec.ofNat 32 r.val) 30#32 = BitVec.ofBool (decide (r.val < 30)) := by decide

/-- The 64 rows of the second half. -/
theorem codesB_apply (w2 : IVec S2x256 32) (w3 : IVec S4x256 32) (w8 : IVec S2x256 8) (r : Fin 64) (l : Fin 256) :
    codesB (F := Ideal) w2 w3 w8 (ix2 r l) = if h : r.val < 30 then fld 2 (2 * (r.val % 16)) (w2 (ix2 ⟨r.val / 16, by omega⟩ l))
      else if h' : r.val < 32 then int (w8 (ix2 ⟨r.val - 30, by omega⟩ l))
      else fld 3 (3 * ((r.val - 32) % 10)) (w3 (ix2 ⟨(r.val - 32) / 10, by omega⟩ l)) := by
  pointwise [codesB, two32_apply, three32_apply, byte_ext]
  by_cases h2 : r.val < 32
  · rw [dif_pos h2, slt30 ⟨r.val, h2⟩]
    change Scalar.select (BitVec.ofBool (decide (r.val < 30))) _ _ = _
    by_cases h : r.val < 30
    · rw [dif_pos h]; simp [h, Scalar.select]
    · simp [h, h2, Scalar.select]
  · rw [dif_neg h2, dif_neg (by omega), dif_neg h2]

/-- A tile of the left operand. -/
theorem xTile_apply (x : Vec Ideal S256x7168 .bf16) (k : Fin 28) (m i : Fin 256) :
    xTile x k (ix2 m i) = x (ix2 m ⟨256 * k.val + i.val, by omega⟩) := by
  pointwise [xTile]

/-- A tile of the base weight. -/
theorem wTile_apply (w : Vec Ideal S3584x1536 .i8) (s : Vec Ideal S56x1536 .bf16) (k : Fin 28) (j : Fin 6) (i n : Fin 256) :
    wTile w s k j (ix2 i n) = fld 4 (4 * (i.val % 2)) (w (ix2 ⟨128 * k.val + i.val / 2, by omega⟩ ⟨256 * j.val + n.val, by omega⟩))
      * s (ix2 ⟨2 * k.val + i.val / 128, by omega⟩ ⟨256 * j.val + n.val, by omega⟩) := by
  pointwise [wTile, wScaled, four256_apply]
  by_cases h : i.val < 128
  · have e : i.val / 128 = 0 := by omega
    simp only [dif_pos h, e, Nat.add_zero]
  · have e : i.val / 128 = 1 := by omega
    have e' : 128 + (i.val - 128) = i.val := by omega
    simp only [dif_neg h, e, e']

/-- The code of rank `p` in a row's words: 286 ranks of 2-bit fields, two of bytes, 32 of 3-bit fields. -/
def codeOf (w2 : Fin 18 → BitVec 32) (w3 : Fin 4 → BitVec 32) (w8 : Fin 2 → BitVec 8) (p : Fin 320) : EReal :=
  if h : p.val < 286 then fld 2 (2 * (p.val % 16)) (w2 ⟨p.val / 16, by omega⟩)
  else if h' : p.val < 288 then int (w8 ⟨p.val - 286, by omega⟩)
  else fld 3 (3 * ((p.val - 288) % 10)) (w3 ⟨(p.val - 288) / 10, by omega⟩)

/-- The two halves of the codes, as the tiles hold them. -/
theorem codeOf_low (w2 : Fin 18 → BitVec 32) (w3 : Fin 4 → BitVec 32) (w8 : Fin 2 → BitVec 8) (p : Fin 320) (h : p.val < 256) :
    fld 2 (2 * (p.val % 16)) (w2 ⟨p.val / 16, by omega⟩) = codeOf w2 w3 w8 p := by
  unfold codeOf; rw [dif_pos (by omega)]

theorem codeOf_high (w2 : Fin 18 → BitVec 32) (w3 : Fin 4 → BitVec 32) (w8 : Fin 2 → BitVec 8) (p : Fin 320) (r : Nat)
    (hp : p.val = 256 + r) :
    (if h : r < 30 then fld 2 (2 * (r % 16)) (w2 ⟨16 + r / 16, by omega⟩)
      else if h' : r < 32 then int (w8 ⟨r - 30, by omega⟩)
      else fld 3 (3 * ((r - 32) % 10)) (w3 ⟨(r - 32) / 10, by omega⟩)) = codeOf w2 w3 w8 p := by
  unfold codeOf
  by_cases h : r < 30
  · have e1 : p.val % 16 = r % 16 := by omega
    have e2 : p.val / 16 = 16 + r / 16 := by omega
    rw [dif_pos h, dif_pos (by omega)]
    simp only [e1, e2]
  · by_cases h' : r < 32
    · have e : p.val - 286 = r - 30 := by omega
      rw [dif_neg h, dif_pos h', dif_neg (by omega), dif_pos (by omega)]
      simp only [e]
    · have e : p.val - 288 = r - 32 := by omega
      rw [dif_neg h, dif_neg h', dif_neg (by omega), dif_neg (by omega)]
      simp only [e]

/-- A tile of the first factor. -/
theorem vTile_apply (v2 : Vec Ideal S18x7168 .i32) (v3 : Vec Ideal S4x7168 .i32) (v8 : Vec Ideal S2x7168 .i8) (vs : Vec Ideal S320x56 .bf16)
    (k : Fin 28) (p : Fin 320) (i : Fin 256) :
    vTile v2 v3 v8 vs k (ix2 p i)
      = codeOf (fun a => v2 (ix2 a ⟨256 * k.val + i.val, by omega⟩)) (fun a => v3 (ix2 a ⟨256 * k.val + i.val, by omega⟩))
          (fun a => v8 (ix2 a ⟨256 * k.val + i.val, by omega⟩)) p * vs (ix2 p ⟨2 * k.val + i.val / 128, by omega⟩) := by
  pointwise [vTile, vScaled, codesB_apply, two256_apply]
  have e' : ∀ h : ¬ i.val < 128, 128 + (i.val - 128) = i.val := fun h => by omega
  by_cases hp : p.val < 256
  · simp only [dif_pos hp, ← codeOf_low _ _ _ p hp]
    by_cases h : i.val < 128
    · have e : i.val / 128 = 0 := by omega
      simp only [dif_pos h, e, Nat.add_zero]
    · have e : i.val / 128 = 1 := by omega
      simp only [dif_neg h, e, e' h]
  · simp only [dif_neg hp, ← codeOf_high _ _ _ p (p.val - 256) (by omega)]
    by_cases h : i.val < 128
    · have e : i.val / 128 = 0 := by omega
      simp only [dif_pos h, e, Nat.add_zero]
    · have e : i.val / 128 = 1 := by omega
      simp only [dif_neg h, e, e' h]

section

variable (u2 : Vec Ideal S18x1536 .i32) (u3 : Vec Ideal S4x1536 .i32) (u8 : Vec Ideal S2x1536 .i8)

/-- The code of rank `p` in column `c` of the second factor's blocks. -/
def uCode (c : Fin 1536) (p : Fin 320) : EReal :=
  codeOf (fun a => u2 (ix2 a c)) (fun a => u3 (ix2 a c)) (fun a => u8 (ix2 a c)) p

/-- The second factor's tiles: the ranks in order, zeros under them. -/
theorem uTile0_apply (j : Fin 6) (i n : Fin 256) :
    uTile (F := Ideal) u2 u3 u8 j 0 (ix2 i n) = uCode u2 u3 u8 ⟨256 * j.val + n.val, by omega⟩ ⟨i.val, by omega⟩ := by
  pointwise [uTile, two256_apply]
  exact codeOf_low (fun a => u2 (ix2 a _)) (fun a => u3 (ix2 a _)) (fun a => u8 (ix2 a _)) ⟨i.val, by omega⟩ (by simp)

theorem uTile1_apply (j : Fin 6) (i n : Fin 256) :
    uTile (F := Ideal) u2 u3 u8 j 1 (ix2 i n)
      = if h : i.val < 64 then uCode u2 u3 u8 ⟨256 * j.val + n.val, by omega⟩ ⟨256 + i.val, by omega⟩ else 0 := by
  pointwise [uTile, codesB_apply]
  by_cases h : i.val < 64
  · rw [dif_pos h, dif_pos h]
    unfold uCode
    rw [← codeOf_high _ _ _ ⟨256 + i.val, by omega⟩ i.val rfl]
  · rw [dif_neg h, dif_neg h]

end

end Cert.KernelIdeal.Hand

end

end
-- ==== Proof.Target.lean ====
module

public import proofs.«01_k».proof.Proof.Fields

/-! # The common value of the two programs

Element `(b, s, n)` of the result: the base weight's even rows (the bytes' low halves) and odd rows (the high halves),
and three groups of ranks. A rank's value is the product of the left operand with its column of scaled codes; it is
multiplied by the diagonal's entry and by the second factor's code. -/

@[expose] public section

set_option maxRecDepth 16384

noncomputable section

namespace Cert.Target

open Idealize.ShloMosaic Cert.Fields

/-! ## Sums cut in equal parts -/

/-- A sum over the parts and over the position in a part is the sum over all positions; positions from `N` on hold
    zero. -/
theorem sum_parts (A B N : Nat) (hN : N ≤ A * B) (f : Fin A → Fin B → EReal) (g : Fin N → EReal)
    (hin : ∀ a b (h : a.val * B + b.val < N), f a b = g ⟨a.val * B + b.val, h⟩)
    (hout : ∀ a b, ¬ a.val * B + b.val < N → f a b = 0) : ∑ a, ∑ b, f a b = ∑ r, g r := by
  let g' : Nat → EReal := fun k => if h : k < N then g ⟨k, h⟩ else 0
  have h1 : ∀ a b, f a b = g' (a.val * B + b.val) := fun a b => by
    by_cases h : a.val * B + b.val < N
    · simp only [g', dif_pos h]; exact hin a b h
    · simp only [g', dif_neg h]; exact hout a b h
  have h2 : ∑ a, ∑ b, f a b = ∑ k : Fin (A * B), g' k.val := by
    rw [← finProdFinEquiv.sum_comp, Fintype.sum_prod_type]
    refine Finset.sum_congr rfl fun a _ => Finset.sum_congr rfl fun b _ => ?_
    rw [h1, finProdFinEquiv_apply_val]
    congr 1
    rw [Nat.add_comm, Nat.mul_comm]
  have h3 : ∑ r, g r = ∑ k : Fin N, g' k.val :=
    Finset.sum_congr rfl fun r _ => by simp only [g', dif_pos r.isLt]
  rw [h2, h3, Fin.sum_univ_eq_sum_range g' (A * B), Fin.sum_univ_eq_sum_range g' N]
  refine (Finset.sum_subset (Finset.range_mono hN) fun k _ hk => ?_).symm
  simp only [g']
  exact dif_neg (by simpa using hk)

/-- A sum over an even number of positions: the even ones and the odd ones. -/
theorem sum_even_odd (f : Fin 7168 → EReal) :
    ∑ d, f d = ∑ i : Fin 3584, f ⟨2 * i.val, by omega⟩ + ∑ i : Fin 3584, f ⟨1 + 2 * i.val, by omega⟩ := by
  rw [← Finset.sum_add_distrib]
  refine (sum_parts 3584 2 7168 (by decide) (fun a b => f ⟨a.val * 2 + b.val, by omega⟩) f (fun _ _ _ => rfl)
    (fun a b h => absurd (by omega) h)).symm.trans (Finset.sum_congr rfl fun i _ => ?_)
  rw [Fin.sum_univ_two]
  congr 2 <;> congr 1 <;> simp <;> omega

/-! ## The value -/

variable (x : FVec Ideal ⟨3, ![2, 128, 7168]⟩ .bf16)

/-- A rank's value: the left operand's row times the rank's codes, each with its group's scale. -/
def rank (code : Fin 7168 → EReal) (scale : Fin 56 → EReal) (b : Fin 2) (s : Fin 128) : EReal :=
  ∑ d : Fin 7168, x (ix3 b s d) * (code d * scale ⟨d.val / 128, by omega⟩)

/-- A rank's contribution, its number in the scales being `q`. -/
def term (vs : FVec Ideal ⟨2, ![56, 320]⟩ .bf16) (us : FVec Ideal ⟨1, ![320]⟩ .bf16) (sg : FVec Ideal ⟨1, ![320]⟩ .f32)
    (q : Fin 320) (code : Fin 7168 → EReal) (ucode : EReal) (b : Fin 2) (s : Fin 128) : EReal :=
  rank x code (fun g => vs (ix2 g q)) b s * (sg (ix1 q) * us (ix1 q)) * ucode

section

variable (w : IVec ⟨2, ![3584, 18432]⟩ 8) (sc : FVec Ideal ⟨2, ![56, 18432]⟩ .bf16)
  (v8 : IVec ⟨2, ![7168, 2]⟩ 8) (u8 : IVec ⟨2, ![18432, 2]⟩ 8)
  (v3 : IVec ⟨2, ![7168, 4]⟩ 32) (u3 : IVec ⟨2, ![18432, 4]⟩ 32)
  (v2 : IVec ⟨2, ![7168, 18]⟩ 32) (u2 : IVec ⟨2, ![18432, 18]⟩ 32)
  (vs : FVec Ideal ⟨2, ![56, 320]⟩ .bf16) (us : FVec Ideal ⟨1, ![320]⟩ .bf16) (sg : FVec Ideal ⟨1, ![320]⟩ .f32)
  (b : Fin 2) (s : Fin 128) (n : Fin 18432)

/-- The base weight's part: even columns with low halves, odd columns with high halves. -/
def baseLo : EReal := ∑ i : Fin 3584,
  x (ix3 b s ⟨2 * i.val, by omega⟩) * (fld 4 0 (w (ix2 i n)) * sc (ix2 ⟨i.val / 64, by omega⟩ n))
def baseHi : EReal := ∑ i : Fin 3584,
  x (ix3 b s ⟨1 + 2 * i.val, by omega⟩) * (fld 4 4 (w (ix2 i n)) * sc (ix2 ⟨i.val / 64, by omega⟩ n))

/-- The ranks of bytes, of 3-bit codes and of 2-bit codes. -/
def rank8 (r : Fin 2) : EReal :=
  term x vs us sg ⟨r.val, by omega⟩ (fun d => int (v8 (ix2 d r))) (int (u8 (ix2 n r))) b s
def rank3 (r : Fin 32) : EReal :=
  term x vs us sg ⟨2 + r.val, by omega⟩ (fun d => fld 3 (3 * (r.val % 10)) (v3 (ix2 d ⟨r.val / 10, by omega⟩)))
    (fld 3 (3 * (r.val % 10)) (u3 (ix2 n ⟨r.val / 10, by omega⟩))) b s
def rank2 (r : Fin 286) : EReal :=
  term x vs us sg ⟨34 + r.val, by omega⟩ (fun d => fld 2 (2 * (r.val % 16)) (v2 (ix2 d ⟨r.val / 16, by omega⟩)))
    (fld 2 (2 * (r.val % 16)) (u2 (ix2 n ⟨r.val / 16, by omega⟩))) b s

/-- The result's element. -/
def value : EReal :=
  baseLo x w sc b s n + baseHi x w sc b s n + ∑ r, rank8 x v8 u8 vs us sg b s n r + ∑ r, rank3 x v3 u3 vs us sg b s n r
    + ∑ r, rank2 x v2 u2 vs us sg b s n r

end

end Cert.Target

end

end
-- ==== Proof.KI.Blocks.lean ====
/-
  What a grid point leaves in the scratch buffer and in the output block, element by element: the base weight's sum over
  the features, and the ranks' sum, with no trace of the tiles.
-/
module

public import proofs.«01_k».proof.Proof.KI.Body
public import proofs.«01_k».proof.Proof.KI.Sums
public import proofs.«01_k».proof.Proof.KI.Tiles
public import proofs.«01_k».proof.Proof.Target
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Fields

section First

variable (x : Vec Ideal S256x7168 .bf16) (v2 : Vec Ideal S18x7168 .i32) (v3 : Vec Ideal S4x7168 .i32)
  (v8 : Vec Ideal S2x7168 .i8) (vs : Vec Ideal S320x56 .bf16) (us : Vec Ideal S1x320 .bf16) (sg : Vec Ideal S1x320 .f32)

/-- Row `m` times the first factor's rank at position `p`. -/
def vDot (m : Fin 256) (p : Fin 320) : EReal :=
  ∑ d : Fin 7168, x (ix2 m d) * (codeOf (fun a => v2 (ix2 a d)) (fun a => v3 (ix2 a d)) (fun a => v8 (ix2 a d)) p
    * vs (ix2 p ⟨d.val / 128, by omega⟩))

/-- What the scratch buffer keeps of it. -/
def tVal (m : Fin 256) (p : Fin 320) : EReal := vDot x v2 v3 v8 vs m p * (sg (ix2 0 p) * us (ix2 0 p))

theorem shrink_dot (m : Fin 256) (p : Fin 320) :
    (∑ k : Fin 28, ∑ i : Fin 256, vTile v2 v3 v8 vs k (ix2 p i) * xTile x k (ix2 m i)) = vDot x v2 v3 v8 vs m p := by
  unfold vDot
  refine Cert.Target.sum_parts 28 256 7168 (by decide) _ _ (fun k i h => ?_) (fun k i h => absurd (by omega) h)
  rw [vTile_apply, xTile_apply, mul_comm]
  have e : (⟨256 * k.val + i.val, by omega⟩ : Fin 7168) = ⟨k.val * 256 + i.val, h⟩ :=
    Fin.ext (show 256 * k.val + i.val = k.val * 256 + i.val by omega)
  have e' : (⟨2 * k.val + i.val / 128, by omega⟩ : Fin 56) = ⟨(k.val * 256 + i.val) / 128, by omega⟩ :=
    Fin.ext (show 2 * k.val + i.val / 128 = (k.val * 256 + i.val) / 128 by omega)
  rw [e, e']

theorem tMain_apply (m : Fin 256) (q : Fin 384) :
    tMain x v2 v3 v8 vs us sg (ix2 m q) = if h : q.val < 320 then tVal x v2 v3 v8 vs us sg m ⟨q.val, h⟩ else 0 := by
  pointwise [tMain]
  by_cases h : q.val < 320
  · simp only [dif_pos h]
    unfold tVal
    rw [← shrink_dot, ← shrink_apply]
  · simp only [dif_neg h]
    exact mul_zero _

theorem tOf_apply (m : Fin 256) (q : Fin 512) :
    tOf x v2 v3 v8 vs us sg (ix2 m q) = if h : q.val < 320 then tVal x v2 v3 v8 vs us sg m ⟨q.val, h⟩ else 0 := by
  unfold tOf tPieces boxT128 boxT384
  canon_tiles y h using cover_t _ _ _
  · have h1' : q.val = 384 + (y 1).val := h1
    rw [dif_neg (by omega)]
    obtain ⟨a, b, rfl⟩ : ∃ (a : Fin 256) (b : Fin 128), y = ix2 a b := ⟨y 0, y 1, eq_ix2 y⟩
    pointwise
  · obtain ⟨a, b, rfl⟩ : ∃ (a : Fin 256) (b : Fin 384), y = ix2 a b := ⟨y 0, y 1, eq_ix2 y⟩
    rw [shapeCast_self, tMain_apply]
    have h0' : m = a := Fin.ext h0
    have h1' : q.val = b.val := h1
    subst h0'
    simp only [h1']

end First

theorem ld_boxT (t : Vec Ideal S256x512 .bf16) (e : Fin 2) (m i : Fin 256) :
    View.ld t (boxT e) (ix2 m i) = t (ix2 m ⟨256 * e.val + i.val, by omega⟩) := by
  pointwise

section Later

variable (x : Vec Ideal S256x7168 .bf16) (w : Vec Ideal S3584x1536 .i8) (s : Vec Ideal S56x1536 .bf16)
  (u2 : Vec Ideal S18x1536 .i32) (u3 : Vec Ideal S4x1536 .i32) (u8 : Vec Ideal S2x1536 .i8)
  (T : Fin 256 → Fin 320 → EReal) (t : Vec Ideal S256x512 .bf16)

/-- The base weight's part of an element of the output block. -/
def baseDot (m : Fin 256) (n : Fin 1536) : EReal :=
  (∑ i : Fin 3584, x (ix2 m ⟨2 * i.val, by omega⟩) * (fld 4 0 (w (ix2 i n)) * s (ix2 ⟨i.val / 64, by omega⟩ n)))
    + ∑ i : Fin 3584, x (ix2 m ⟨1 + 2 * i.val, by omega⟩) * (fld 4 4 (w (ix2 i n)) * s (ix2 ⟨i.val / 64, by omega⟩ n))

theorem base_dot (j : Fin 6) (m n : Fin 256) :
    (∑ k : Fin 28, ∑ i : Fin 256, xTile x k (ix2 m i) * wTile w s k j (ix2 i n))
      = baseDot x w s m ⟨256 * j.val + n.val, by omega⟩ := by
  let f : Fin 7168 → EReal := fun d => x (ix2 m d)
    * (fld 4 (4 * (d.val % 2)) (w (ix2 ⟨d.val / 2, by omega⟩ ⟨256 * j.val + n.val, by omega⟩))
      * s (ix2 ⟨d.val / 128, by omega⟩ ⟨256 * j.val + n.val, by omega⟩))
  refine (Cert.Target.sum_parts 28 256 7168 (by decide) _ f (fun k i h => ?_) (fun k i h => absurd (by omega) h)).trans
    ((Cert.Target.sum_even_odd f).trans ?_)
  · rw [wTile_apply, xTile_apply]
    have e : (⟨256 * k.val + i.val, by omega⟩ : Fin 7168) = ⟨k.val * 256 + i.val, h⟩ :=
      Fin.ext (show 256 * k.val + i.val = k.val * 256 + i.val by omega)
    have e1 : (⟨2 * k.val + i.val / 128, by omega⟩ : Fin 56) = ⟨(k.val * 256 + i.val) / 128, by omega⟩ :=
      Fin.ext (show 2 * k.val + i.val / 128 = (k.val * 256 + i.val) / 128 by omega)
    have e2 : (⟨128 * k.val + i.val / 2, by omega⟩ : Fin 3584) = ⟨(k.val * 256 + i.val) / 2, by omega⟩ :=
      Fin.ext (show 128 * k.val + i.val / 2 = (k.val * 256 + i.val) / 2 by omega)
    have e3 : i.val % 2 = (k.val * 256 + i.val) % 2 := by omega
    rw [e, e1, e2, e3]
  · unfold baseDot
    refine congrArg₂ (· + ·) (Finset.sum_congr rfl fun i _ => ?_) (Finset.sum_congr rfl fun i _ => ?_)
    · have e1 : (⟨2 * i.val / 2, by omega⟩ : Fin 3584) = i := Fin.ext (show 2 * i.val / 2 = i.val by omega)
      have e2 : (⟨2 * i.val / 128, by omega⟩ : Fin 56) = ⟨i.val / 64, by omega⟩ :=
        Fin.ext (show 2 * i.val / 128 = i.val / 64 by omega)
      have e3 : 4 * (2 * i.val % 2) = 0 := by omega
      simp only [f, e1, e2, e3]
    · have e1 : (⟨(1 + 2 * i.val) / 2, by omega⟩ : Fin 3584) = i := Fin.ext (show (1 + 2 * i.val) / 2 = i.val by omega)
      have e2 : (⟨(1 + 2 * i.val) / 128, by omega⟩ : Fin 56) = ⟨i.val / 64, by omega⟩ :=
        Fin.ext (show (1 + 2 * i.val) / 128 = i.val / 64 by omega)
      have e3 : 4 * ((1 + 2 * i.val) % 2) = 4 := by omega
      simp only [f, e1, e2, e3]

/-- An element of the output block. -/
def outVal (m : Fin 256) (n : Fin 1536) : EReal := baseDot x w s m n + ∑ p : Fin 320, T m p * uCode u2 u3 u8 n p

theorem rank_dot (ht : ∀ m q, t (ix2 m q) = if h : q.val < 320 then T m ⟨q.val, h⟩ else 0) (j : Fin 6) (m n : Fin 256) :
    (∑ i : Fin 256, View.ld t (boxT 0) (ix2 m i) * uTile (F := Ideal) u2 u3 u8 j 0 (ix2 i n))
      + (∑ i : Fin 256, View.ld t (boxT 1) (ix2 m i) * uTile (F := Ideal) u2 u3 u8 j 1 (ix2 i n))
    = ∑ p : Fin 320, T m p * uCode u2 u3 u8 ⟨256 * j.val + n.val, by omega⟩ p := by
  let f : Fin 2 → Fin 256 → EReal := fun e i =>
    View.ld t (boxT e) (ix2 m i) * uTile (F := Ideal) u2 u3 u8 j e (ix2 i n)
  refine (Fin.sum_univ_two fun e => ∑ i, f e i).symm.trans
    (Cert.Target.sum_parts 2 256 320 (by decide) f _ (fun e i h => ?_) (fun e i h => ?_))
  · show View.ld t (boxT e) (ix2 m i) * _ = _
    rw [ld_boxT, ht]
    match e with
    | 0 =>
      rw [uTile0_apply, dif_pos (by show 256 * 0 + i.val < 320; omega)]
      have e0 : (⟨256 * 0 + i.val, by omega⟩ : Fin 320) = ⟨0 * 256 + i.val, by omega⟩ := Fin.ext (by simp)
      have e1 : (⟨i.val, by omega⟩ : Fin 320) = ⟨0 * 256 + i.val, by omega⟩ := Fin.ext (by simp)
      exact congrArg₂ (fun a b => T m a * uCode u2 u3 u8 ⟨256 * j.val + n.val, by omega⟩ b) e0 e1
    | 1 =>
      have h' : 1 * 256 + i.val < 320 := h
      rw [uTile1_apply, dif_pos (by show 256 * 1 + i.val < 320; omega), dif_pos (by omega)]
      have e0 : (⟨256 * 1 + i.val, by omega⟩ : Fin 320) = ⟨1 * 256 + i.val, h'⟩ := Fin.ext (by simp)
      have e1 : (⟨256 + i.val, by omega⟩ : Fin 320) = ⟨1 * 256 + i.val, h'⟩ := Fin.ext (by simp)
      exact congrArg₂ (fun a b => T m a * uCode u2 u3 u8 ⟨256 * j.val + n.val, by omega⟩ b) e0 e1
  · show View.ld t (boxT e) (ix2 m i) * _ = _
    match e with
    | 0 => exact absurd (by show 0 * 256 + i.val < 320; omega) h
    | 1 =>
      have h' : ¬ 1 * 256 + i.val < 320 := h
      rw [uTile1_apply, dif_neg (by omega)]
      exact mul_zero _

theorem outSum_eq (ht : ∀ m q, t (ix2 m q) = if h : q.val < 320 then T m ⟨q.val, h⟩ else 0) (j : Fin 6) (m n : Fin 256) :
    outSum x w s u2 u3 u8 t j m n = outVal x w s u2 u3 u8 T m ⟨256 * j.val + n.val, by omega⟩ := by
  unfold outSum outVal
  rw [add_assoc, base_dot, rank_dot u2 u3 u8 T t ht]

variable (st : Mxu Ideal)

theorem outTile_at (hst : Clean st) (ht : ∀ m q, t (ix2 m q) = if h : q.val < 320 then T m ⟨q.val, h⟩ else 0) (j : Fin 6)
    (y : S256x256.Idx) (m : Fin 256) (n : Fin 1536) (h0 : m.val = (y 0).val) (h1 : n.val = 256 * j.val + (y 1).val) :
    outTile x w s u2 u3 u8 t st j y = outVal x w s u2 u3 u8 T m n := by
  obtain ⟨a, b, rfl⟩ : ∃ (a b : Fin 256), y = ix2 a b := ⟨y 0, y 1, eq_ix2 y⟩
  rw [outTile_apply x w s u2 u3 u8 t j hst, outSum_eq x w s u2 u3 u8 T t ht]
  have e0 : m = a := Fin.ext h0
  have e1 : n = ⟨256 * j.val + b.val, by omega⟩ := Fin.ext h1
  rw [e0, e1]

theorem outOf_apply (hst : Clean st) (ht : ∀ m q, t (ix2 m q) = if h : q.val < 320 then T m ⟨q.val, h⟩ else 0)
    (m : Fin 256) (n : Fin 1536) :
    outOf x w s u2 u3 u8 t st (ix2 m n) = outVal x w s u2 u3 u8 T m n := by
  unfold outOf outPieces
  canon_tiles y h using cover_out _ _ _ _ _ _ _
  · exact outTile_at x w s u2 u3 u8 T t st hst ht 5 y m n h0 h1
  · exact outTile_at x w s u2 u3 u8 T t st hst ht 4 y m n h0 h1
  · exact outTile_at x w s u2 u3 u8 T t st hst ht 3 y m n h0 h1
  · exact outTile_at x w s u2 u3 u8 T t st hst ht 2 y m n h0 h1
  · exact outTile_at x w s u2 u3 u8 T t st hst ht 1 y m n h0 h1
  · exact outTile_at x w s u2 u3 u8 T t st hst ht 0 y m n h0 (h1.trans (Nat.zero_add _).symm)

end Later

end Cert.KernelIdeal.Hand
-- ==== Proof.KI.Run.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Claim
public import proofs.«01_k».proof.Proof.KI.Body
public import proofs.«01_k».proof.Proof.KI.RunLater
public import proofs.«01_k».proof.Proof.KI.RunFirst

@[expose] public section

set_option maxRecDepth 16384

/-! # The kernel's run: its proof data, the body's obligation at every grid point, and the frame -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The grid's first point, as the pipeline numbers its points. -/
abbrev pt0 : Fin cfg0.N := t0_0

/-- What the scratch buffer holds from the first point on. -/
def tAt (c : Dev nD) : Vec F S256x512 .bf16 :=
  tOf (iblk m c 0 pt0) (iblk m c 3 pt0) (iblk m c 4 pt0) (iblk m c 5 pt0) (iblk m c 9 pt0) (iblk m c 10 pt0) (iblk m c 11 pt0)

/-- The matrix units' state that the sums of point `t` start from. -/
def stAt (c : Dev nD) (t : Fin cfg0.N) : Mxu F :=
  if t.val = 0 then stFirst (iblk m c 0 pt0) (iblk m c 3 pt0) (iblk m c 4 pt0) (iblk m c 5 pt0) (iblk m c 9 pt0) else Mxu.init

/-- What the body leaves in the output block at point `t`. -/
def outAt (c : Dev nD) (t : Fin cfg0.N) : Vec F S256x1536 .bf16 :=
  outOf (iblk m c 0 t) (iblk m c 1 t) (iblk m c 2 t) (iblk m c 6 t) (iblk m c 7 t) (iblk m c 8 t) (tAt m c) (stAt m c t)

/-- The scratch buffer before point `t`: anything before the first point, `tAt` after it. -/
def scratch (c : Dev nD) (t : Fin (cfg0.N + 1)) : sProp 𝕄 :=
  if t.val = 0 then iprop(∃ d, owns (c : Thread nD τ) (Memref.whole cc0_scratch0) fullShare d)
  else owns (c : Thread nD τ) (Memref.whole cc0_scratch0) fullShare (tAt m c)

theorem scratch_zero (c : Dev nD) (t : Fin (cfg0.N + 1)) (h : t.val = 0) :
    scratch m c t = iprop(∃ d, owns (c : Thread nD τ) (Memref.whole cc0_scratch0) fullShare d) := if_pos h

theorem scratch_pos (c : Dev nD) (t : Fin (cfg0.N + 1)) (h : ¬ t.val = 0) :
    scratch m c t = owns (c : Thread nD τ) (Memref.whole cc0_scratch0) fullShare (tAt m c) := if_neg h

theorem outAt_zero (c : Dev nD) (t : Fin cfg0.N) (h : t.val = 0) :
    outAt m c t = outOf (iblk m c 0 t) (iblk m c 1 t) (iblk m c 2 t) (iblk m c 6 t) (iblk m c 7 t) (iblk m c 8 t) (tAt m c)
      (stFirst (iblk m c 0 pt0) (iblk m c 3 pt0) (iblk m c 4 pt0) (iblk m c 5 pt0) (iblk m c 9 pt0)) := by
  unfold outAt stAt; rw [if_pos h]

theorem outAt_pos (c : Dev nD) (t : Fin cfg0.N) (h : ¬ t.val = 0) :
    outAt m c t = outOf (iblk m c 0 t) (iblk m c 1 t) (iblk m c 2 t) (iblk m c 6 t) (iblk m c 7 t) (iblk m c 8 t) (tAt m c)
      Mxu.init := by
  unfold outAt stAt; rw [if_neg h]

/-- The branch is taken at the first point, -/
theorem cond_zero (t : Fin cfg0.N) (h : t.val = 0) : cond (grid0.coords t) = 1#1 := by
  revert h; revert t; decide

/-- and at no other. -/
theorem cond_pos (t : Fin cfg0.N) (h : ¬ t.val = 0) : ¬ cond (grid0.coords t) = 1#1 := by
  revert h; revert t; decide

/-- The proof data: the arrays as the region finds them; after the body at point `t` each input's buffer at its block and
    the output's at `outAt`; the invariant the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := iprop(scratch m c t ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' memrefs hold their blocks, so the body's triple of its branch applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = iprop(scratch m c t.succ ∗ ∃ r, prngReg c r) from rfl,
    show (dats m 0 c).Φ t.castSucc = iprop(scratch m c t.castSucc ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12]
  by_cases h0 : t.val = 0
  · obtain rfl : t = pt0 := Fin.ext h0
    have h0 : (pt0 : Fin cfg0.N).val = 0 := rfl
    rw [scratch_zero m c pt0.castSucc h0, scratch_pos m c pt0.succ (by simp), outAt_zero m c pt0 h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_first c (grid0.coords pt0) (cond_zero pt0 h0) Set.univ _ _ _ _ _ _ _ _ _ _ _ _ _ _ _ _ _ _ _ _ _ _ _ _ _ _ _ _ (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · skip
    rw [scratch_pos m c t.castSucc h0, scratch_pos m c t.succ (by simp), outAt_pos m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_later c (grid0.coords t) (cond_pos t h0) Set.univ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (tAt m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem scratch_set : (Memref.whole cc0_scratch0 : Memref sig .tc _ _ _).view.set = Finset.univ := by
  rw [Memref.view_whole, View.set_whole]

/-- Before the first point the scratch buffer holds anything, -/
theorem enter (c : Dev nD) : Pipeline.ΦA spec0 c ⊢ (dats (F := F) m 0 c).Φ 0 := by
  rw [show (dats m 0 c).Φ 0 = iprop(scratch m c 0 ∗ ∃ r, prngReg c r) from rfl, scratch_zero m c 0 rfl]
  unfold Pipeline.ΦA
  rw [scopedRest0_eq]
  unfold owns
  iintro ⟨⟨%f, HS⟩, Hg⟩
  isplitl [HS]
  · iexists _, f
    isplitr; · ipureintro; rfl
    rw [scratch_set]
    iexact HS
  iexact Hg

/-- and after the last what it holds is forgotten. -/
theorem leave (c : Dev nD) : (dats (F := F) m 0 c).Φ (Fin.last cfg0.N) ⊢ Pipeline.ΦA spec0 c := by
  rw [show (dats m 0 c).Φ (Fin.last cfg0.N) = iprop(scratch m c (Fin.last cfg0.N) ∗ ∃ r, prngReg c r) from rfl,
    scratch_pos m c (Fin.last cfg0.N) (by rw [Fin.val_last]; show ¬ grid0.N = 0; rw [N_0]; decide)]
  unfold Pipeline.ΦA
  rw [scopedRest0_eq]
  unfold owns
  rw [scratch_set]
  iintro ⟨⟨%f, %hf, HS⟩, Hg⟩
  isplitl [HS]
  · iexists f
    iexact HS
  iexact Hg

-- the run theorem's implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- Every weakly fair execution of @main ends, with every array of the pipeline at what the proof data give it and every
    other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Hand

end

end
-- ==== Proof.KI.Entry.lean ====
/-
  What the kernel's windows hold, in terms of the arguments: each block of each grid point, read at an index. The
  operands the host prepares are the activations with their two outer axes merged, the code arrays transposed, and the
  rank coefficients rotated by 34 positions.
-/
module

public import proofs.«01_k».proof.Proof.KI.Run
public import Idealize.ShloMosaic.Lib.Pointwise
public import Idealize.ShloMosaic.Lib.Claim
public import Idealize.ShloMosaic.Lib.Pipeline.ValueKit
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe

set_option maxRecDepth 16384

variable (m : (ℓ : Loc nD τ sig) → Buf (Elt Ideal) ℓ) (c : Dev nD)

/-- The windows that stay where they are. -/
theorem idx_whole : ∀ t : Fin cfg0.N, win0_0.index t = ![0, 0] ∧ win0_3.index t = ![0, 0] ∧ win0_4.index t = ![0, 0] ∧
    win0_5.index t = ![0, 0] ∧ win0_9.index t = ![0, 0] ∧ win0_10.index t = ![0, 0] ∧ win0_11.index t = ![0, 0] :=
  (by decide +kernel : ∀ t : Fin grid0.N, _)

/-- The windows that move along the columns with the grid point. -/
theorem idx_col : ∀ t : Fin cfg0.N, win0_1.index t = ![0, t.val] ∧ win0_2.index t = ![0, t.val] ∧
    win0_6.index t = ![0, t.val] ∧ win0_7.index t = ![0, t.val] ∧ win0_8.index t = ![0, t.val] ∧
    win0_12.index t = ![0, t.val] :=
  (by decide +kernel : ∀ t : Fin grid0.N, _)

theorem N_eq : cfg0.N = 12 := by decide +kernel

/-- The column of the whole array at column `n` of the block of grid point `t`. -/
def col (t : Fin cfg0.N) (n : Fin 1536) : Fin 18432 := ⟨1536 * t.val + n.val, by have := t.isLt; have := N_eq; omega⟩

/-- The rank that the kernel keeps at position `p`: the ranks are rotated by 34. -/
def rot (p : Fin 320) : Fin 320 := ⟨if p.val < 286 then p.val + 34 else p.val - 286, by split <;> omega⟩

theorem rot_lo (p : Fin 320) (h : p.val < 286) : rot p = ⟨34 + p.val, by omega⟩ :=
  Fin.ext (by simp only [rot, if_pos h]; omega)

theorem rot_hi (p : Fin 320) (h : ¬ p.val < 286) : rot p = ⟨p.val - 286, by omega⟩ :=
  Fin.ext (by simp only [rot, if_neg h])

theorem v0_apply (p : Fin 256) (g : Fin 7168) :
    (V m c main_v0 : S256x7168.Idx → EReal) (ix2 p g) = m ((c.tc : Thread nD τ).loc main_arg0) (ix3 ⟨p.val / 128, by omega⟩ ⟨p.val % 128, by omega⟩ g) := by
  unfold V
  simp only [hostOps0, hostOps0_1, hostOps0_2, hostOps0_3, hostOps0_4, hostOps0_5, hostOps0_6, List.flatten_cons,
    List.flatten_nil, List.append_nil, List.cons_append, List.nil_append]
  after_reads_at

theorem v1_apply (p : Fin 18) (g : Fin 7168) :
    (V m c main_v1 : S18x7168.Idx → BitVec 32) (ix2 p g) = m ((c.tc : Thread nD τ).loc main_arg7) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v2_apply (p : Fin 4) (g : Fin 7168) :
    (V m c main_v2 : S4x7168.Idx → BitVec 32) (ix2 p g) = m ((c.tc : Thread nD τ).loc main_arg5) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v3_apply (p : Fin 2) (g : Fin 7168) :
    (V m c main_v3 : S2x7168.Idx → BitVec 8) (ix2 p g) = m ((c.tc : Thread nD τ).loc main_arg3) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v4_apply (p : Fin 18) (g : Fin 18432) :
    (V m c main_v4 : S18x18432.Idx → BitVec 32) (ix2 p g) = m ((c.tc : Thread nD τ).loc main_arg8) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v5_apply (p : Fin 4) (g : Fin 18432) :
    (V m c main_v5 : S4x18432.Idx → BitVec 32) (ix2 p g) = m ((c.tc : Thread nD τ).loc main_arg6) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v6_apply (p : Fin 2) (g : Fin 18432) :
    (V m c main_v6 : S2x18432.Idx → BitVec 8) (ix2 p g) = m ((c.tc : Thread nD τ).loc main_arg4) (ix2 g p) := by
  unfold V
  simp only [hostOps0, hostOps0_1, hostOps0_2, hostOps0_3, hostOps0_4, hostOps0_5, hostOps0_6, List.flatten_cons,
    List.flatten_nil, List.append_nil, List.cons_append, List.nil_append]
  after_reads_at

theorem v8_apply (p : Fin 320) (g : Fin 56) :
    (V m c main_v8 : S320x56.Idx → EReal) (ix2 p g) = m ((c.tc : Thread nD τ).loc main_arg9) (ix2 g (rot p)) := by
  unfold V
  simp only [hostOps0, hostOps0_1, hostOps0_2, hostOps0_3, hostOps0_4, hostOps0_5, hostOps0_6, List.flatten_cons,
    List.flatten_nil, List.append_nil, List.cons_append, List.nil_append]
  after_reads_at
  after_reads_at
  by_cases h : p.val < 286
  · rw [dif_pos h, rot_lo _ h]
  · rw [dif_neg h, rot_hi _ h]

theorem v10_apply (g : Fin 320) :
    (V m c main_v10 : S1x320.Idx → EReal) (ix2 0 g) = m ((c.tc : Thread nD τ).loc main_arg10) (ix1 (rot g)) := by
  unfold V
  simp only [hostOps0, hostOps0_1, hostOps0_2, hostOps0_3, hostOps0_4, hostOps0_5, hostOps0_6, List.flatten_cons,
    List.flatten_nil, List.append_nil, List.cons_append, List.nil_append]
  after_reads_at
  after_reads_at
  by_cases h : g.val < 286
  · rw [dif_pos h, rot_lo _ h]
  · rw [dif_neg h, rot_hi _ h]

theorem v12_apply (g : Fin 320) :
    (V m c main_v12 : S1x320.Idx → EReal) (ix2 0 g) = m ((c.tc : Thread nD τ).loc main_arg11) (ix1 (rot g)) := by
  unfold V
  simp only [hostOps0, hostOps0_1, hostOps0_2, hostOps0_3, hostOps0_4, hostOps0_5, hostOps0_6, List.flatten_cons,
    List.flatten_nil, List.append_nil, List.cons_append, List.nil_append]
  after_reads_at
  after_reads_at
  by_cases h : g.val < 286
  · rw [dif_pos h, rot_lo _ h]
  · rw [dif_neg h, rot_hi _ h]

theorem iblk0 (t : Fin cfg0.N) (p : Fin 256) (g : Fin 7168) :
    (iblk m c 0 t : S256x7168.Idx → EReal) (ix2 p g) = (V m c main_v0 : S256x7168.Idx → EReal) (ix2 p g) := by
  blk_ext [iblk, idx_whole t]

theorem iblk3 (t : Fin cfg0.N) (p : Fin 18) (g : Fin 7168) :
    (iblk m c 3 t : S18x7168.Idx → BitVec 32) (ix2 p g) = (V m c main_v1 : S18x7168.Idx → BitVec 32) (ix2 p g) := by
  blk_ext [iblk, idx_whole t]

theorem iblk4 (t : Fin cfg0.N) (p : Fin 4) (g : Fin 7168) :
    (iblk m c 4 t : S4x7168.Idx → BitVec 32) (ix2 p g) = (V m c main_v2 : S4x7168.Idx → BitVec 32) (ix2 p g) := by
  blk_ext [iblk, idx_whole t]

theorem iblk5 (t : Fin cfg0.N) (p : Fin 2) (g : Fin 7168) :
    (iblk m c 5 t : S2x7168.Idx → BitVec 8) (ix2 p g) = (V m c main_v3 : S2x7168.Idx → BitVec 8) (ix2 p g) := by
  blk_ext [iblk, idx_whole t]

theorem iblk9 (t : Fin cfg0.N) (p : Fin 320) (g : Fin 56) :
    (iblk m c 9 t : S320x56.Idx → EReal) (ix2 p g) = (V m c main_v8 : S320x56.Idx → EReal) (ix2 p g) := by
  blk_ext [iblk, idx_whole t]

theorem iblk10 (t : Fin cfg0.N) (p : Fin 1) (g : Fin 320) :
    (iblk m c 10 t : S1x320.Idx → EReal) (ix2 p g) = (V m c main_v10 : S1x320.Idx → EReal) (ix2 p g) := by
  blk_ext [iblk, idx_whole t]

theorem iblk11 (t : Fin cfg0.N) (p : Fin 1) (g : Fin 320) :
    (iblk m c 11 t : S1x320.Idx → EReal) (ix2 p g) = (V m c main_v12 : S1x320.Idx → EReal) (ix2 p g) := by
  blk_ext [iblk, idx_whole t]

theorem iblk1 (t : Fin cfg0.N) (p : Fin 3584) (g : Fin 1536) :
    (iblk m c 1 t : S3584x1536.Idx → BitVec 8) (ix2 p g) = (V m c main_arg1 : S3584x18432.Idx → BitVec 8) (ix2 p (col t g)) := by
  blk_ext [iblk, col, idx_col t]

theorem iblk2 (t : Fin cfg0.N) (p : Fin 56) (g : Fin 1536) :
    (iblk m c 2 t : S56x1536.Idx → EReal) (ix2 p g) = (V m c main_arg2 : S56x18432.Idx → EReal) (ix2 p (col t g)) := by
  blk_ext [iblk, col, idx_col t]

theorem iblk6 (t : Fin cfg0.N) (p : Fin 18) (g : Fin 1536) :
    (iblk m c 6 t : S18x1536.Idx → BitVec 32) (ix2 p g) = (V m c main_v4 : S18x18432.Idx → BitVec 32) (ix2 p (col t g)) := by
  blk_ext [iblk, col, idx_col t]

theorem iblk7 (t : Fin cfg0.N) (p : Fin 4) (g : Fin 1536) :
    (iblk m c 7 t : S4x1536.Idx → BitVec 32) (ix2 p g) = (V m c main_v5 : S4x18432.Idx → BitVec 32) (ix2 p (col t g)) := by
  blk_ext [iblk, col, idx_col t]

theorem iblk8 (t : Fin cfg0.N) (p : Fin 2) (g : Fin 1536) :
    (iblk m c 8 t : S2x1536.Idx → BitVec 8) (ix2 p g) = (V m c main_v6 : S2x18432.Idx → BitVec 8) (ix2 p (col t g)) := by
  blk_ext [iblk, col, idx_col t]
-- ==== Proof.KI.Combine.lean ====
/-
  The kernel's element is the target's: the blocks' contents in terms of the arguments, and the ranks' sum regrouped by
  the width of their codes.
-/
module

public import proofs.«01_k».proof.Proof.KI.Blocks
public import proofs.«01_k».proof.Proof.KI.Entry

@[expose] public section

set_option maxRecDepth 16384

noncomputable section

namespace Cert.KernelIdeal.Hand

open Cert.KernelIdeal Cert.KernelIdeal.Gen
open Idealize.ShloMosaic Idealize.ShloMosaic.TcCoe
open Cert.Fields Cert.Target

theorem regroup (a b c d : EReal) : a + (b + c + d) = a + c + d + b := by
  rw [add_assoc b, add_comm b, ← add_assoc, ← add_assoc]

/-- The ranks in the kernel's order: those of 2-bit codes, of bytes, of 3-bit codes. -/
theorem sum_ranks (g : Fin 320 → EReal) :
    ∑ p, g p = ∑ r : Fin 286, g ⟨r.val, by omega⟩ + ∑ r : Fin 2, g ⟨286 + r.val, by omega⟩
      + ∑ r : Fin 32, g ⟨288 + r.val, by omega⟩ := by
  rw [show (∑ p, g p) = ∑ p : Fin (286 + 2 + 32), g p from rfl, Fin.sum_univ_add, Fin.sum_univ_add]
  rfl

section

variable (w2 : Fin 18 → BitVec 32) (w3 : Fin 4 → BitVec 32) (w8 : Fin 2 → BitVec 8)

theorem codeOf_two (r : Fin 286) :
    codeOf w2 w3 w8 ⟨r.val, by omega⟩ = fld 2 (2 * (r.val % 16)) (w2 ⟨r.val / 16, by omega⟩) := by
  unfold codeOf; rw [dif_pos r.isLt]

theorem codeOf_byte (r : Fin 2) : codeOf w2 w3 w8 ⟨286 + r.val, by omega⟩ = int (w8 r) := by
  have e : (⟨286 + r.val - 286, by omega⟩ : Fin 2) = r := Fin.ext (show 286 + r.val - 286 = r.val by omega)
  unfold codeOf
  rw [dif_neg (show ¬ 286 + r.val < 286 by omega), dif_pos (show 286 + r.val < 288 by omega)]
  simp only [e]

theorem codeOf_three (r : Fin 32) :
    codeOf w2 w3 w8 ⟨288 + r.val, by omega⟩ = fld 3 (3 * (r.val % 10)) (w3 ⟨r.val / 10, by omega⟩) := by
  have e : 288 + r.val - 288 = r.val := by omega
  unfold codeOf
  rw [dif_neg (show ¬ 288 + r.val < 286 by omega), dif_neg (show ¬ 288 + r.val < 288 by omega)]
  simp only [e]

end

theorem rot_two (r : Fin 286) : rot ⟨r.val, by omega⟩ = ⟨34 + r.val, by omega⟩ := rot_lo _ r.isLt

theorem rot_byte (r : Fin 2) : rot ⟨286 + r.val, by omega⟩ = ⟨r.val, by omega⟩ :=
  (rot_hi _ (show ¬ 286 + r.val < 286 by omega)).trans (Fin.ext (show 286 + r.val - 286 = r.val by omega))

theorem rot_three (r : Fin 32) : rot ⟨288 + r.val, by omega⟩ = ⟨2 + r.val, by omega⟩ :=
  (rot_hi _ (show ¬ 288 + r.val < 286 by omega)).trans (Fin.ext (show 288 + r.val - 286 = 2 + r.val by omega))

section

variable (X : FVec Ideal ⟨3, ![2, 128, 7168]⟩ .bf16) (W : IVec ⟨2, ![3584, 18432]⟩ 8) (SC : FVec Ideal ⟨2, ![56, 18432]⟩ .bf16)
  (V8 : IVec ⟨2, ![7168, 2]⟩ 8) (U8 : IVec ⟨2, ![18432, 2]⟩ 8) (V3 : IVec ⟨2, ![7168, 4]⟩ 32) (U3 : IVec ⟨2, ![18432, 4]⟩ 32)
  (V2 : IVec ⟨2, ![7168, 18]⟩ 32) (U2 : IVec ⟨2, ![18432, 18]⟩ 32) (VS : FVec Ideal ⟨2, ![56, 320]⟩ .bf16)
  (US : FVec Ideal ⟨1, ![320]⟩ .bf16) (SG : FVec Ideal ⟨1, ![320]⟩ .f32)

variable (x : Vec Ideal S256x7168 .bf16) (w : Vec Ideal S3584x1536 .i8) (s : Vec Ideal S56x1536 .bf16)
  (v2 : Vec Ideal S18x7168 .i32) (v3 : Vec Ideal S4x7168 .i32) (v8 : Vec Ideal S2x7168 .i8)
  (u2 : Vec Ideal S18x1536 .i32) (u3 : Vec Ideal S4x1536 .i32) (u8 : Vec Ideal S2x1536 .i8)
  (vs : Vec Ideal S320x56 .bf16) (us : Vec Ideal S1x320 .bf16) (sg : Vec Ideal S1x320 .f32)

/-- The target at a row of the result's array. -/
def target (r : Fin 256) (c : Fin 18432) : EReal :=
  value X W SC V8 U8 V3 U3 V2 U2 VS US SG ⟨r.val / 128, by omega⟩ ⟨r.val % 128, by omega⟩ c

theorem outVal_target (m : Fin 256) (n : Fin 1536) (c : Fin 18432)
    (hx : ∀ p d, x (ix2 p d) = X (ix3 ⟨p.val / 128, by omega⟩ ⟨p.val % 128, by omega⟩ d))
    (hw : ∀ i, w (ix2 i n) = W (ix2 i c)) (hs : ∀ i, s (ix2 i n) = SC (ix2 i c))
    (h2 : ∀ a d, v2 (ix2 a d) = V2 (ix2 d a)) (h3 : ∀ a d, v3 (ix2 a d) = V3 (ix2 d a)) (h8 : ∀ a d, v8 (ix2 a d) = V8 (ix2 d a))
    (g2 : ∀ a, u2 (ix2 a n) = U2 (ix2 c a)) (g3 : ∀ a, u3 (ix2 a n) = U3 (ix2 c a)) (g8 : ∀ a, u8 (ix2 a n) = U8 (ix2 c a))
    (hvs : ∀ p g, vs (ix2 p g) = VS (ix2 g (rot p))) (hus : ∀ p, us (ix2 0 p) = US (ix1 (rot p)))
    (hsg : ∀ p, sg (ix2 0 p) = SG (ix1 (rot p))) :
    outVal x w s u2 u3 u8 (tVal x v2 v3 v8 vs us sg) m n = target X W SC V8 U8 V3 U3 V2 U2 VS US SG m c := by
  have hb : baseDot x w s m n = baseLo X W SC ⟨m.val / 128, by omega⟩ ⟨m.val % 128, by omega⟩ c
      + baseHi X W SC ⟨m.val / 128, by omega⟩ ⟨m.val % 128, by omega⟩ c := by
    unfold baseDot baseLo baseHi
    simp only [hx, hw, hs]
  have hr : ∀ p : Fin 320, tVal x v2 v3 v8 vs us sg m p * uCode u2 u3 u8 n p
      = term X VS US SG (rot p) (fun d => codeOf (fun a => V2 (ix2 d a)) (fun a => V3 (ix2 d a)) (fun a => V8 (ix2 d a)) p)
          (codeOf (fun a => U2 (ix2 c a)) (fun a => U3 (ix2 c a)) (fun a => U8 (ix2 c a)) p)
          ⟨m.val / 128, by omega⟩ ⟨m.val % 128, by omega⟩ := fun p => by
    unfold tVal vDot uCode term rank
    simp only [hx, h2, h3, h8, g2, g3, g8, hvs, hus, hsg]
  unfold outVal target value
  rw [hb, Finset.sum_congr rfl fun p _ => hr p, sum_ranks]
  simp only [rot_two, rot_byte, rot_three, codeOf_two, codeOf_byte, codeOf_three]
  unfold rank8 rank3 rank2
  exact regroup _ _ _ _

end

end Cert.KernelIdeal.Hand
-- ==== Proof.KI.Result.lean ====
/-
  The kernel's result array after a run: the target at every element.
-/
module

public import proofs.«01_k».proof.Proof.KI.Combine

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The result in terms of the arguments. -/
def result (r : Fin 256) (n : Fin 18432) : EReal :=
  target (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) r n

/-- The result as an array. -/
def resultArr : Buf (Elt Ideal) ((c.tc : Thread nD τ).loc main_v13) :=
  fun j : S256x18432.Idx => result m c (j 0) (j 1)

theorem clean_stAt (t : Fin cfg0.N) : Clean (stAt m c t) := by
  unfold stAt
  split
  · exact clean_stFirst _ _ _ _ _
  · exact clean_init

/-- What a point leaves in the output block, from the arguments. -/
theorem outAt_apply (t : Fin cfg0.N) (r : Fin 256) (n : Fin 1536) :
    (outAt m c t : S256x1536.Idx → EReal) (ix2 r n) = result m c r (col t n) := by
  unfold outAt result tAt
  rw [outOf_apply _ _ _ _ _ _ (tVal (iblk m c 0 pt0) (iblk m c 3 pt0) (iblk m c 4 pt0) (iblk m c 5 pt0) (iblk m c 9 pt0)
    (iblk m c 10 pt0) (iblk m c 11 pt0)) _ _ (clean_stAt m c t) (fun m' q => tOf_apply _ _ _ _ _ _ _ m' q)]
  have hx : (iblk m c 0 t : S256x7168.Idx → EReal) = iblk m c 0 pt0 := funext fun i => by
    obtain ⟨a, b, rfl⟩ : ∃ (a : Fin 256) (b : Fin 7168), i = ix2 a b := ⟨i 0, i 1, eq_ix2 i⟩
    exact (iblk0 m c t a b).trans (iblk0 m c pt0 a b).symm
  rw [hx]
  exact outVal_target _ _ _ _ _ _ _ _ _ _ _ _ _ _ _ _ _ _ _ _ _ _ _ _ r n (col t n)
    (fun p d => (iblk0 m c pt0 p d).trans (v0_apply m c p d))
    (fun i => (iblk1 m c t i n).trans (congrFun (V_main_arg1 m c) _))
    (fun i => (iblk2 m c t i n).trans (congrFun (V_main_arg2 m c) _))
    (fun a d => (iblk3 m c pt0 a d).trans (v1_apply m c a d))
    (fun a d => (iblk4 m c pt0 a d).trans (v2_apply m c a d))
    (fun a d => (iblk5 m c pt0 a d).trans (v3_apply m c a d))
    (fun a => (iblk6 m c t a n).trans (v4_apply m c a _))
    (fun a => (iblk7 m c t a n).trans (v5_apply m c a _))
    (fun a => (iblk8 m c t a n).trans (v6_apply m c a _))
    (fun p g => (iblk9 m c pt0 p g).trans (v8_apply m c p g))
    (fun p => (iblk10 m c pt0 0 p).trans (v10_apply m c p))
    (fun p => (iblk11 m c pt0 0 p).trans (v12_apply m c p))

/-- The result's array after the run. -/
theorem arr_result : (dats m 0 c).arrAt 12 (cfgs 0).N = resultArr m c := by
  refine (dats m 0 c).arrAt_eq_of_covers 12 _ (by decide +kernel) fun t hf y => ?_
  blk_simp
  rw [after0_12]
  obtain ⟨r, n, rfl⟩ : ∃ (r : Fin 256) (n : Fin 1536), y = ix2 r n := ⟨y 0, y 1, eq_ix2 y⟩
  have e : (win0_12.blk t).view.emb (ix2 r n) = ix2 r (col t n) := by blk_ext [col, idx_col t]
  rw [e]
  exact outAt_apply m c t r n

/-- The run: the result's array at the target, the arguments unchanged. -/
theorem run : θ_run defs (onTc (τ := τ) (main (F := Ideal))) ⟨m, fun _ => 0, ρ⟩ (fun r => ∀ c : Dev nD,
      r.2.mem ((c.tc : Thread nD τ).loc main_v13) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1 12 |>.trans (arr_result m c), h.2 c⟩)
    (θ_run_and (run_main m ρ) (unchanged m ρ))

end Cert.KernelIdeal.Hand
-- ==== Proof.RefTerm.lean ====
module

public import proofs.«01_k».proof.Proof.Gen.ReferenceIdeal.Run
public import proofs.«01_k».proof.Proof.Fields

/-! # The reference's result as a function of its arguments

The result is a sum of five products: the base weight's even and odd rows, and the three groups of ranks. -/

@[expose] public section

set_option maxRecDepth 16384

noncomputable section

namespace Cert.ReferenceIdeal.Hand

open Cert.ReferenceIdeal Cert.ReferenceIdeal.Gen
open Idealize.ShloMosaic Idealize.ShloMosaic.TcCoe

/-- The low halves of the base codes. -/
def cLoRaw (w : IVec S3584x18432 8) : IVec S3584x18432 32 :=
  andi (extui 32 w natLt_8_32) (broadcastInDim S3584x18432 ![] bcast_S_S3584x18432 (constantI S_ 32 15#32))

def cLo (w : IVec S3584x18432 8) : FVec Ideal S3584x18432 .bf16 :=
  sitofp .bf16 (select (cmpi .sge (cLoRaw w) (broadcastInDim S3584x18432 ![] bcast_S_S3584x18432 (constantI S_ 32
    8#32)))
    (subi (cLoRaw w) (broadcastInDim S3584x18432 ![] bcast_S_S3584x18432 (constantI S_ 32 16#32))) (cLoRaw w))

/-- The high halves of the base codes. -/
def cHiRaw (w : IVec S3584x18432 8) : IVec S3584x18432 32 :=
  Host.shrsi (extui 32 w natLt_8_32) (broadcastInDim S3584x18432 ![] bcast_S_S3584x18432 (constantI S_ 32 4#32))

def cHi (w : IVec S3584x18432 8) : FVec Ideal S3584x18432 .bf16 :=
  sitofp .bf16 (select (cmpi .sge (cHiRaw w) (broadcastInDim S3584x18432 ![] bcast_S_S3584x18432 (constantI S_ 32
    8#32)))
    (subi (cHiRaw w) (broadcastInDim S3584x18432 ![] bcast_S_S3584x18432 (constantI S_ 32 16#32))) (cHiRaw w))

/-- The 3-bit codes of the first factor. -/
def cV3Raw (v3 : IVec S7168x4 32) : IVec S7168x4x10 32 :=
  andi (Host.shrsi (broadcastInDim S7168x4x10 ![0, 1, 2] bcast_S7168x4x1_S7168x4x10_0_1_2 (broadcastInDim S7168x4x1
    ![0, 1] bcast_S7168x4_S7168x4x1_0_1 v3)) (broadcastInDim S7168x4x10 ![0, 1, 2] bcast_S1x1x10_S7168x4x10_0_1_2
    (broadcastInDim S1x1x10 ![2] bcast_S10_S1x1x10_2 (muli (broadcastInDim S10 ![] bcast_S_S10 (constantI S_ 32
    3#32)) (iotaInDim S10 32 0))))) (broadcastInDim S7168x4x10 ![] bcast_S_S7168x4x10 (constantI S_ 32 7#32))

def cV3 (v3 : IVec S7168x4 32) : FVec Ideal S7168x4x10 .bf16 :=
  sitofp .bf16 (select (cmpi .sge (cV3Raw v3) (broadcastInDim S7168x4x10 ![] bcast_S_S7168x4x10 (constantI S_ 32
    4#32)))
    (subi (cV3Raw v3) (broadcastInDim S7168x4x10 ![] bcast_S_S7168x4x10 (constantI S_ 32 8#32))) (cV3Raw v3))

/-- The 3-bit codes of the second factor. -/
def cU3Raw (u3 : IVec S18432x4 32) : IVec S18432x4x10 32 :=
  andi (Host.shrsi (broadcastInDim S18432x4x10 ![0, 1, 2] bcast_S18432x4x1_S18432x4x10_0_1_2 (broadcastInDim
    S18432x4x1 ![0, 1] bcast_S18432x4_S18432x4x1_0_1 u3)) (broadcastInDim S18432x4x10 ![0, 1, 2]
    bcast_S1x1x10_S18432x4x10_0_1_2 (broadcastInDim S1x1x10 ![2] bcast_S10_S1x1x10_2 (muli (broadcastInDim S10 ![]
    bcast_S_S10 (constantI S_ 32 3#32)) (iotaInDim S10 32 0))))) (broadcastInDim S18432x4x10 ![] bcast_S_S18432x4x10
    (constantI S_ 32 7#32))

def cU3 (u3 : IVec S18432x4 32) : FVec Ideal S18432x4x10 .bf16 :=
  sitofp .bf16 (select (cmpi .sge (cU3Raw u3) (broadcastInDim S18432x4x10 ![] bcast_S_S18432x4x10 (constantI S_ 32
    4#32)))
    (subi (cU3Raw u3) (broadcastInDim S18432x4x10 ![] bcast_S_S18432x4x10 (constantI S_ 32 8#32))) (cU3Raw u3))

/-- The 2-bit codes of the first factor. -/
def cV2Raw (v2 : IVec S7168x18 32) : IVec S7168x18x16 32 :=
  andi (Host.shrsi (broadcastInDim S7168x18x16 ![0, 1, 2] bcast_S7168x18x1_S7168x18x16_0_1_2 (broadcastInDim
    S7168x18x1 ![0, 1] bcast_S7168x18_S7168x18x1_0_1 v2)) (broadcastInDim S7168x18x16 ![0, 1, 2]
    bcast_S1x1x16_S7168x18x16_0_1_2 (broadcastInDim S1x1x16 ![2] bcast_S16_S1x1x16_2 (muli (broadcastInDim S16 ![]
    bcast_S_S16 (constantI S_ 32 2#32)) (iotaInDim S16 32 0))))) (broadcastInDim S7168x18x16 ![] bcast_S_S7168x18x16
    (constantI S_ 32 3#32))

def cV2 (v2 : IVec S7168x18 32) : FVec Ideal S7168x18x16 .bf16 :=
  sitofp .bf16 (select (cmpi .sge (cV2Raw v2) (broadcastInDim S7168x18x16 ![] bcast_S_S7168x18x16 (constantI S_ 32
    2#32)))
    (subi (cV2Raw v2) (broadcastInDim S7168x18x16 ![] bcast_S_S7168x18x16 (constantI S_ 32 4#32))) (cV2Raw v2))

/-- The 2-bit codes of the second factor. -/
def cU2Raw (u2 : IVec S18432x18 32) : IVec S18432x18x16 32 :=
  andi (Host.shrsi (broadcastInDim S18432x18x16 ![0, 1, 2] bcast_S18432x18x1_S18432x18x16_0_1_2 (broadcastInDim
    S18432x18x1 ![0, 1] bcast_S18432x18_S18432x18x1_0_1 u2)) (broadcastInDim S18432x18x16 ![0, 1, 2]
    bcast_S1x1x16_S18432x18x16_0_1_2 (broadcastInDim S1x1x16 ![2] bcast_S16_S1x1x16_2 (muli (broadcastInDim S16 ![]
    bcast_S_S16 (constantI S_ 32 2#32)) (iotaInDim S16 32 0))))) (broadcastInDim S18432x18x16 ![]
    bcast_S_S18432x18x16 (constantI S_ 32 3#32))

def cU2 (u2 : IVec S18432x18 32) : FVec Ideal S18432x18x16 .bf16 :=
  sitofp .bf16 (select (cmpi .sge (cU2Raw u2) (broadcastInDim S18432x18x16 ![] bcast_S_S18432x18x16 (constantI S_ 32
    2#32)))
    (subi (cU2Raw u2) (broadcastInDim S18432x18x16 ![] bcast_S_S18432x18x16 (constantI S_ 32 4#32))) (cU2Raw u2))

/-- The diagonal: the two vectors' product. -/
def coef (us : FVec Ideal S320 .bf16) (sg : FVec Ideal S320 .f32) : FVec Ideal S320 .f32 := mulf sg (extf .f32 us bitsLt_bf16_f32)

/-- The even columns times the low halves. -/
def yLo (x : FVec Ideal S2x128x7168 .bf16) (w : IVec S3584x18432 8) (s : FVec Ideal S56x18432 .bf16) :
    FVec Ideal S2x128x18432 .f32 :=
  Host.dotGeneral dot_S2x128x3584_S3584x18432_S2x128x18432_2_0_01_1_n_n none (Host.slice S2x128x3584 ![0, 0, 0] ![1,
    1, 2] x slicesBy_S2x128x7168_S2x128x3584_0s1_0s1_0s2) (shapeCast _ (mulf (shapeCast _ (cLo w)
    shapeCasts_S3584x18432_S56x64x18432) (broadcastInDim S56x64x18432 ![0, 1, 2] bcast_S56x1x18432_S56x64x18432_0_1_2
    (broadcastInDim S56x1x18432 ![0, 2] bcast_S56x18432_S56x1x18432_0_2 s))) shapeCasts_S56x64x18432_S3584x18432)

/-- The odd columns times the high halves. -/
def yHi (x : FVec Ideal S2x128x7168 .bf16) (w : IVec S3584x18432 8) (s : FVec Ideal S56x18432 .bf16) :
    FVec Ideal S2x128x18432 .f32 :=
  Host.dotGeneral dot_S2x128x3584_S3584x18432_S2x128x18432_2_0_01_1_n_n none (Host.slice S2x128x3584 ![0, 0, 1] ![1,
    1, 2] x slicesBy_S2x128x7168_S2x128x3584_0s1_0s1_1s2) (shapeCast _ (mulf (shapeCast _ (cHi w)
    shapeCasts_S3584x18432_S56x64x18432) (broadcastInDim S56x64x18432 ![0, 1, 2] bcast_S56x1x18432_S56x64x18432_0_1_2
    (broadcastInDim S56x1x18432 ![0, 2] bcast_S56x18432_S56x1x18432_0_2 s))) shapeCasts_S56x64x18432_S3584x18432)

/-- The two ranks of bytes. -/
def y8 (x : FVec Ideal S2x128x7168 .bf16) (v8 : IVec S7168x2 8) (u8 : IVec S18432x2 8) (vs : FVec Ideal S56x320 .bf16) (us : FVec Ideal S320 .bf16) (sg : FVec Ideal S320 .f32) :
    FVec Ideal S2x128x18432 .f32 :=
  Host.dotGeneral dot_S2x128x2_S18432x2_S2x128x18432_2_1_01_0_n_n none (truncf .bf16 (mulf (Host.dotGeneral
    dot_S2x128x7168_S7168x2_S2x128x2_2_0_01_1_n_n none x (shapeCast _ (mulf (shapeCast _ (sitofp .bf16 (extsi 32 v8
    natLt_8_32)) shapeCasts_S7168x2_S56x128x2) (broadcastInDim S56x128x2 ![0, 1, 2] bcast_S56x1x2_S56x128x2_0_1_2
    (broadcastInDim S56x1x2 ![0, 2] bcast_S56x2_S56x1x2_0_2 (extractStridedSlice S56x2 ![0, 0] vs
    slices_S56x320_S56x2_0_0)))) shapeCasts_S56x128x2_S7168x2)) (broadcastInDim S2x128x2 ![0, 1, 2]
    bcast_S1x1x2_S2x128x2_0_1_2 (broadcastInDim S1x1x2 ![2] bcast_S2_S1x1x2_2 (extractStridedSlice S2 ![0] (coef us
    sg) slices_S320_S2_0)))) bitsLt_bf16_f32) (sitofp .bf16 (extsi 32 u8 natLt_8_32))

/-- The 32 ranks of 3-bit codes. -/
def y3 (x : FVec Ideal S2x128x7168 .bf16) (v3 : IVec S7168x4 32) (u3 : IVec S18432x4 32) (vs : FVec Ideal S56x320 .bf16) (us : FVec Ideal S320 .bf16) (sg : FVec Ideal S320 .f32) :
    FVec Ideal S2x128x18432 .f32 :=
  Host.dotGeneral dot_S2x128x4x10_S18432x4x10_S2x128x18432_32_21_01_0_n_n none (truncf .bf16 (mulf (Host.dotGeneral
    dot_S2x128x7168_S7168x4x10_S2x128x4x10_2_0_01_12_n_n none x (shapeCast _ (mulf (shapeCast _ (cV3 v3)
    shapeCasts_S7168x4x10_S56x128x4x10) (broadcastInDim S56x128x4x10 ![0, 1, 2, 3]
    bcast_S56x1x4x10_S56x128x4x10_0_1_2_3 (broadcastInDim S56x1x4x10 ![0, 2, 3] bcast_S56x4x10_S56x1x4x10_0_2_3
    (shapeCast _ (pad S56x40 ![0, 0] ![0, 8] ![0, 0] (extractStridedSlice S56x32 ![0, 2] vs
    slices_S56x320_S56x32_0_2) (sitofp .bf16 (constantI S_ 32 0#32)) pads_S56x32_S56x40_000_080 h_S_)
    shapeCasts_S56x40_S56x4x10)))) shapeCasts_S56x128x4x10_S7168x4x10)) (broadcastInDim S2x128x4x10 ![0, 1, 2, 3]
    bcast_S1x1x4x10_S2x128x4x10_0_1_2_3 (broadcastInDim S1x1x4x10 ![2, 3] bcast_S4x10_S1x1x4x10_2_3 (shapeCast _ (pad
    S40 ![0] ![8] ![0] (extractStridedSlice S32 ![2] (coef us sg) slices_S320_S32_2) (sitofp .f32 (constantI S_ 32
    0#32)) pads_S32_S40_080 h_S_) shapeCasts_S40_S4x10)))) bitsLt_bf16_f32) (cU3 u3)

/-- The 286 ranks of 2-bit codes. -/
def y2 (x : FVec Ideal S2x128x7168 .bf16) (v2 : IVec S7168x18 32) (u2 : IVec S18432x18 32) (vs : FVec Ideal S56x320 .bf16) (us : FVec Ideal S320 .bf16) (sg : FVec Ideal S320 .f32) :
    FVec Ideal S2x128x18432 .f32 :=
  Host.dotGeneral dot_S2x128x18x16_S18432x18x16_S2x128x18432_32_21_01_0_n_n none (truncf .bf16 (mulf (Host.dotGeneral
    dot_S2x128x7168_S7168x18x16_S2x128x18x16_2_0_01_12_n_n none x (shapeCast _ (mulf (shapeCast _ (cV2 v2)
    shapeCasts_S7168x18x16_S56x128x18x16) (broadcastInDim S56x128x18x16 ![0, 1, 2, 3]
    bcast_S56x1x18x16_S56x128x18x16_0_1_2_3 (broadcastInDim S56x1x18x16 ![0, 2, 3] bcast_S56x18x16_S56x1x18x16_0_2_3
    (shapeCast _ (pad S56x288 ![0, 0] ![0, 2] ![0, 0] (extractStridedSlice S56x286 ![0, 34] vs
    slices_S56x320_S56x286_0_34) (sitofp .bf16 (constantI S_ 32 0#32)) pads_S56x286_S56x288_000_020 h_S_)
    shapeCasts_S56x288_S56x18x16)))) shapeCasts_S56x128x18x16_S7168x18x16)) (broadcastInDim S2x128x18x16 ![0, 1, 2,
    3] bcast_S1x1x18x16_S2x128x18x16_0_1_2_3 (broadcastInDim S1x1x18x16 ![2, 3] bcast_S18x16_S1x1x18x16_2_3
    (shapeCast _ (pad S288 ![0] ![2] ![0] (extractStridedSlice S286 ![34] (coef us sg) slices_S320_S286_34) (sitofp
    .f32 (constantI S_ 32 0#32)) pads_S286_S288_020 h_S_) shapeCasts_S288_S18x16)))) bitsLt_bf16_f32) (cU2 u2)

/-- The result's term in the launch contents is the sum of the five products. -/
theorem sum_eq (V0 : Valuation τ sig (Elt Ideal)) : Value.res_main_v150 V0
    = addf (addf (addf (addf (yLo (V0 (Proc.devRef .tc main_arg0)) (V0 (Proc.devRef .tc main_arg1)) (V0 (Proc.devRef .tc main_arg2)))
        (yHi (V0 (Proc.devRef .tc main_arg0)) (V0 (Proc.devRef .tc main_arg1)) (V0 (Proc.devRef .tc main_arg2))))
        (y8 (V0 (Proc.devRef .tc main_arg0)) (V0 (Proc.devRef .tc main_arg3)) (V0 (Proc.devRef .tc main_arg4))
          (V0 (Proc.devRef .tc main_arg9)) (V0 (Proc.devRef .tc main_arg10)) (V0 (Proc.devRef .tc main_arg11))))
        (y3 (V0 (Proc.devRef .tc main_arg0)) (V0 (Proc.devRef .tc main_arg5)) (V0 (Proc.devRef .tc main_arg6))
          (V0 (Proc.devRef .tc main_arg9)) (V0 (Proc.devRef .tc main_arg10)) (V0 (Proc.devRef .tc main_arg11))))
        (y2 (V0 (Proc.devRef .tc main_arg0)) (V0 (Proc.devRef .tc main_arg7)) (V0 (Proc.devRef .tc main_arg8))
          (V0 (Proc.devRef .tc main_arg9)) (V0 (Proc.devRef .tc main_arg10)) (V0 (Proc.devRef .tc main_arg11))) := rfl

end Cert.ReferenceIdeal.Hand

end

end
-- ==== Proof.RefValue.lean ====
module

public import proofs.«01_k».proof.Proof.RefTerm
public import proofs.«01_k».proof.Proof.Target

/-! # The reference's result, element by element -/

@[expose] public section

set_option maxRecDepth 16384

noncomputable section

namespace Cert.ReferenceIdeal.Hand

open Cert.ReferenceIdeal Cert.ReferenceIdeal.Gen
open Idealize.ShloMosaic Idealize.ShloMosaic.TcCoe
open Cert.Fields Cert.Target

theorem shift3 : ∀ f : Fin 10, IntOp.muli (3#32) (BitVec.ofNat 32 f.val) = BitVec.ofNat 32 (3 * f.val) := by decide
theorem shift2 : ∀ f : Fin 16, IntOp.muli (2#32) (BitVec.ofNat 32 f.val) = BitVec.ofNat 32 (2 * f.val) := by decide

theorem cLo_apply (w : IVec S3584x18432 8) (i : Fin 3584) (n : Fin 18432) : cLo w (ix2 i n) = fld 4 0 (w (ix2 i n)) := by
  pointwise [cLo, cLoRaw]
  exact rfld4 _ 0 _ (low_half _)

theorem cHi_apply (w : IVec S3584x18432 8) (i : Fin 3584) (n : Fin 18432) : cHi w (ix2 i n) = fld 4 4 (w (ix2 i n)) := by
  pointwise [cHi, cHiRaw]
  exact rfld4 _ 4 _ (high_half _)

theorem cV3_apply (w : IVec S7168x4 32) (i : Fin 7168) (a : Fin 4) (f : Fin 10) :
    cV3 w (ix3 i a f) = fld 3 (3 * f.val) (w (ix2 i a)) := by
  pointwise [cV3, cV3Raw]
  exact rfld3 _ (by omega) .host _ _ (by rw [shift3])

theorem cU3_apply (w : IVec S18432x4 32) (i : Fin 18432) (a : Fin 4) (f : Fin 10) :
    cU3 w (ix3 i a f) = fld 3 (3 * f.val) (w (ix2 i a)) := by
  pointwise [cU3, cU3Raw]
  exact rfld3 _ (by omega) .host _ _ (by rw [shift3])

theorem cV2_apply (w : IVec S7168x18 32) (i : Fin 7168) (a : Fin 18) (f : Fin 16) :
    cV2 w (ix3 i a f) = fld 2 (2 * f.val) (w (ix2 i a)) := by
  pointwise [cV2, cV2Raw]
  exact rfld2 _ (by omega) .host _ _ (by rw [shift2])

theorem cU2_apply (w : IVec S18432x18 32) (i : Fin 18432) (a : Fin 18) (f : Fin 16) :
    cU2 w (ix3 i a f) = fld 2 (2 * f.val) (w (ix2 i a)) := by
  pointwise [cU2, cU2Raw]
  exact rfld2 _ (by omega) .host _ _ (by rw [shift2])

section

variable (x : FVec Ideal S2x128x7168 .bf16) (w : IVec S3584x18432 8) (sc : FVec Ideal S56x18432 .bf16)
  (v8 : IVec S7168x2 8) (u8 : IVec S18432x2 8) (v3 : IVec S7168x4 32) (u3 : IVec S18432x4 32)
  (v2 : IVec S7168x18 32) (u2 : IVec S18432x18 32)
  (vs : FVec Ideal S56x320 .bf16) (us : FVec Ideal S320 .bf16) (sg : FVec Ideal S320 .f32)
  (b : Fin 2) (s : Fin 128) (n : Fin 18432)

theorem yLo_apply : yLo x w sc (ix3 b s n) = baseLo x w sc b s n := by
  pointwise [yLo, cLo_apply]
  rfl

theorem yHi_apply : yHi x w sc (ix3 b s n) = baseHi x w sc b s n := by
  pointwise [yHi, cHi_apply]
  rfl

theorem byte_ext {φ : FTy} (e : BitVec 8) : FloatOps.sitofp (F := Ideal) φ (BitVec.signExtend 32 e) = int e := by
  change (((BitVec.signExtend 32 e).toInt : ℝ) : EReal) = _
  rw [BitVec.toInt_signExtend_of_le (by omega)]
  rfl

theorem y8_apply : y8 x v8 u8 vs us sg (ix3 b s n) = ∑ r, rank8 x v8 u8 vs us sg b s n r := by
  pointwise [y8, coef, byte_ext]
  rfl

theorem zero_word {φ : FTy} : FloatOps.sitofp (F := Ideal) φ 0#32 = 0 := by
  change (((0#32).toInt : ℝ) : EReal) = 0
  simp

theorem y3_apply : y3 x v3 u3 vs us sg (ix3 b s n) = ∑ r, rank3 x v3 u3 vs us sg b s n r := by
  pointwise [y3, coef, cV3_apply, cU3_apply, zero_word]
  rw [Finset.sum_comm]
  refine sum_parts 4 10 32 (by decide) _ _ (fun a f h => ?_) (fun a f h => ?_)
  · have e1 : (a.val * 10 + f.val) % 10 = f.val := by omega
    have e2 : (a.val * 10 + f.val) / 10 = a.val := by omega
    simp only [rank3, term, rank, e1, e2, dif_pos h]
    congr 2
    refine Finset.sum_congr rfl fun d _ => ?_
    rw [dif_pos ⟨by omega, h⟩]
  · simp only [dif_neg h, mul_zero, zero_mul]

theorem y2_apply : y2 x v2 u2 vs us sg (ix3 b s n) = ∑ r, rank2 x v2 u2 vs us sg b s n r := by
  pointwise [y2, coef, cV2_apply, cU2_apply, zero_word]
  rw [Finset.sum_comm]
  refine sum_parts 18 16 286 (by decide) _ _ (fun a f h => ?_) (fun a f h => ?_)
  · have e1 : (a.val * 16 + f.val) % 16 = f.val := by omega
    have e2 : (a.val * 16 + f.val) / 16 = a.val := by omega
    simp only [rank2, term, rank, e1, e2, dif_pos h]
    congr 2
    refine Finset.sum_congr rfl fun d _ => ?_
    rw [dif_pos ⟨by omega, h⟩]
  · simp only [dif_neg h, mul_zero, zero_mul]

end

open Value in
/-- The result, element by element. -/
theorem result_apply (V0 : Valuation τ sig (Elt Ideal)) (b : Fin 2) (s : Fin 128) (n : Fin 18432) :
    (shapeCast S256x18432 (truncf (F := Ideal) .bf16 (res_main_v150 V0) bitsLt_bf16_f32) shapeCasts_S2x128x18432_S256x18432)
      (ix2 ⟨128 * b.val + s.val, by omega⟩ n)
    = value (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11)) b s n := by
  rw [sum_eq]
  pointwise
  have e : ∀ h h', (ix3 (⟨(128 * b.val + s.val) / 128, h⟩ : Fin 2) (⟨(128 * b.val + s.val) % 128, h'⟩ : Fin 128) n
      : S2x128x18432.Idx) = ix3 b s n := fun h h' => by congr 1 <;> apply Fin.ext <;> simp <;> omega
  simp only [e, yLo_apply, yHi_apply, y8_apply, y3_apply, y2_apply]
  rfl

end Cert.ReferenceIdeal.Hand

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Result
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged; it declares no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- Where the arguments agree, the reference's result is the kernel's. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)) :
    (shapeCast Cert.ReferenceIdeal.S256x18432 (truncf (F := Ideal) .bf16
        (Cert.ReferenceIdeal.Value.res_main_v150 (StableHlo.launchContents m' c)) Cert.ReferenceIdeal.Gen.bitsLt_bf16_f32)
        Cert.ReferenceIdeal.Gen.shapeCasts_S2x128x18432_S256x18432 : Cert.ReferenceIdeal.S256x18432.Idx → EReal)
      = Cert.KernelIdeal.Hand.resultArr m c := by
  funext j
  obtain ⟨r, n, rfl⟩ : ∃ (r : Fin 256) (n : Fin 18432), j = ix2 r n := ⟨j 0, j 1, eq_ix2 j⟩
  have e : (⟨128 * (r.val / 128) + r.val % 128, by omega⟩ : Fin 256) = r := Fin.ext (by simp; omega)
  have h := Cert.ReferenceIdeal.Hand.result_apply (StableHlo.launchContents m' c) ⟨r.val / 128, by omega⟩ ⟨r.val % 128, by omega⟩ n
  rw [show (ix2 r n : Cert.ReferenceIdeal.S256x18432.Idx) = ix2 ⟨128 * (r.val / 128) + r.val % 128, by omega⟩ n from by rw [e]]
  refine h.trans ?_
  rw [e]
  show _ = Cert.KernelIdeal.Hand.result m c r n
  unfold Cert.KernelIdeal.Hand.result Cert.KernelIdeal.Hand.target
  rw [← h0, ← h1, ← h2, ← h3, ← h4, ← h5, ← h6, ← h7, ← h8, ← h9, ← h10, ← h11]

/-- The kernel's result is the reference's, at exact arithmetic. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.resultArr m c, Cert.KernelIdeal.Hand.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨h0, h1, h2, h3, h4, h5, h6, h7, h8, h9, h10, h11⟩ := hargs c
  exact reference_result m m' c h0 h1 h2 h3 h4 h5 h6 h7 h8 h9 h10 h11

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, frame_reference, trivial, algebraic⟩

end Cert.Proof

end
